-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x512x2560 : Shape := ⟨3, ![24, 512, 2560]⟩
abbrev S1280x6912 : Shape := ⟨2, ![1280, 6912]⟩
abbrev S40x6912 : Shape := ⟨2, ![40, 6912]⟩
abbrev S2560x16 : Shape := ⟨2, ![2560, 16]⟩
abbrev S16x6912 : Shape := ⟨2, ![16, 6912]⟩
abbrev S24x512x6912 : Shape := ⟨3, ![24, 512, 6912]⟩
abbrev S2x128 : Shape := ⟨2, ![2, 128]⟩
abbrev S12288x2560 : Shape := ⟨2, ![12288, 2560]⟩
abbrev S12288x6912 : Shape := ⟨2, ![12288, 6912]⟩
abbrev S12288x16 : Shape := ⟨2, ![12288, 16]⟩
abbrev S256x2560 : Shape := ⟨2, ![256, 2560]⟩
abbrev S256x6912 : Shape := ⟨2, ![256, 6912]⟩
abbrev S256x16 : Shape := ⟨2, ![256, 16]⟩
abbrev S2560x6912 : Shape := ⟨2, ![2560, 6912]⟩
abbrev S2x256x6912 : Shape := ⟨3, ![2, 256, 6912]⟩
abbrev S2 : Shape := ⟨1, ![2]⟩
abbrev S1 : Shape := ⟨1, ![1]⟩
abbrev S_ : Shape := ⟨0, ![]⟩
abbrev S1x256x6912 : Shape := ⟨3, ![1, 256, 6912]⟩
abbrev S1x128 : Shape := ⟨2, ![1, 128]⟩
abbrev S8x128 : Shape := ⟨2, ![8, 128]⟩
abbrev S16x128 : Shape := ⟨2, ![16, 128]⟩
abbrev S32x128 : Shape := ⟨2, ![32, 128]⟩
abbrev S8x128x1 : Shape := ⟨3, ![8, 128, 1]⟩

abbrev nBuf : Space → Nat
  | .hbm => 14
  | .vmem => 18
  | .smem => 0
  | _ => 0

abbrev bufTy : (tb : Table) → Fin (tcTables nBuf tb) → BufTy
  | .hbm, ⟨0, _⟩ => ⟨S24x512x2560, .bf16⟩
  | .hbm, ⟨1, _⟩ => ⟨S1280x6912, .i8⟩
  | .hbm, ⟨2, _⟩ => ⟨S40x6912, .f32⟩
  | .hbm, ⟨3, _⟩ => ⟨S2560x16, .bf16⟩
  | .hbm, ⟨4, _⟩ => ⟨S16x6912, .bf16⟩
  | .hbm, ⟨5, _⟩ => ⟨S24x512x6912, .bf16⟩
  | .hbm, ⟨6, _⟩ => ⟨S2x128, .i32⟩
  | .hbm, ⟨7, _⟩ => ⟨S12288x2560, .bf16⟩
  | .hbm, ⟨8, _⟩ => ⟨S12288x6912, .bf16⟩
  | .hbm, ⟨9, _⟩ => ⟨S12288x2560, .bf16⟩
  | .hbm, ⟨10, _⟩ => ⟨S2560x16, .f32⟩
  | .hbm, ⟨11, _⟩ => ⟨S16x6912, .f32⟩
  | .hbm, ⟨12, _⟩ => ⟨S12288x16, .bf16⟩
  | .hbm, ⟨13, _⟩ => ⟨S12288x16, .bf16⟩
  | .local _ .vmem, ⟨0, _⟩ => ⟨S2x128, .i32⟩
  | .local _ .vmem, ⟨1, _⟩ => ⟨S40x6912, .f32⟩
  | .local _ .vmem, ⟨2, _⟩ => ⟨S2560x16, .bf16⟩
  | .local _ .vmem, ⟨3, _⟩ => ⟨S16x6912, .bf16⟩
  | .local _ .vmem, ⟨4, _⟩ => ⟨S256x2560, .bf16⟩
  | .local _ .vmem, ⟨5, _⟩ => ⟨S256x2560, .bf16⟩
  | .local _ .vmem, ⟨6, _⟩ => ⟨S256x6912, .bf16⟩
  | .local _ .vmem, ⟨7, _⟩ => ⟨S256x6912, .bf16⟩
  | .local _ .vmem, ⟨8, _⟩ => ⟨S256x2560, .bf16⟩
  | .local _ .vmem, ⟨9, _⟩ => ⟨S256x2560, .bf16⟩
  | .local _ .vmem, ⟨10, _⟩ => ⟨S2560x16, .f32⟩
  | .local _ .vmem, ⟨11, _⟩ => ⟨S16x6912, .f32⟩
  | .local _ .vmem, ⟨12, _⟩ => ⟨S256x16, .bf16⟩
  | .local _ .vmem, ⟨13, _⟩ => ⟨S256x16, .bf16⟩
  | .local _ .vmem, ⟨14, _⟩ => ⟨S256x16, .bf16⟩
  | .local _ .vmem, ⟨15, _⟩ => ⟨S256x16, .bf16⟩
  | .local _ .vmem, ⟨16, _⟩ => ⟨S2560x6912, .bf16⟩
  | .local _ .vmem, ⟨17, _⟩ => ⟨S2x256x6912, .i8⟩
  | _, _ => ⟨S24x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_40 : BitVec 32 := 0#32
  let c5_i32 : BitVec 32 := 5#32
  let v43 : BitVec 32 := Scalar.addi c0_i32_40 c5_i32
  let c1_i32 : BitVec 32 := 1#32
  ⟨c0_i32_40, v43, c1_i32⟩
def k0_cond2 (k0_t1 : Fin k0_t1_loop.trips) : BitVec 1 :=
  let c0_i32_40 : BitVec 32 := 0#32
  let c1_i32 : BitVec 32 := 1#32
  let arg16 : BitVec 32 := Scf.iv c0_i32_40 c1_i32 k0_t1
  let c1_i32_53 : BitVec 32 := 1#32
  let v58 : BitVec 32 := Scalar.addi arg16 c1_i32_53
  let c5_i32_54 : BitVec 32 := 5#32
  let v59 : BitVec 1 := Scalar.cmpi .slt v58 c5_i32_54
  let v60 : BitVec 32 := Scalar.extui v59
  let c0_i32_55 : BitVec 32 := 0#32
  let v61 : BitVec 1 := Scalar.cmpi .ne v60 c0_i32_55
  v61

def k0_off1 (k0_t1 : Fin k0_t1_loop.trips) : Fin 1 → Nat :=
  let c1_i32_66 : BitVec 32 := 1#32
  let c0_i32_40 : BitVec 32 := 0#32
  let c1_i32 : BitVec 32 := 1#32
  let arg16 : BitVec 32 := Scf.iv c0_i32_40 c1_i32 k0_t1
  let c2_i32 : BitVec 32 := 2#32
  let c0_i32_48 : BitVec 32 := 0#32
  let v48 : BitVec 1 := Scalar.cmpi .eq c2_i32 c0_i32_48
  let c1_i32_49 : BitVec 32 := 1#32
  let v49 : BitVec 32 := Scalar.select v48 c1_i32_49 c2_i32
  let v50 : BitVec 32 := Scalar.remsi arg16 v49
  let c0_i32_51 : BitVec 32 := 0#32
  let v52 : BitVec 1 := Scalar.cmpi .slt v50 c0_i32_51
  let c0_i32_52 : BitVec 32 := 0#32
  let v53 : BitVec 1 := Scalar.cmpi .slt v49 c0_i32_52
  let v54 : BitVec 1 := Scalar.xori v52 v53
  let c0_i32_50 : BitVec 32 := 0#32
  let v51 : BitVec 1 := Scalar.cmpi .ne v50 c0_i32_50
  let v55 : BitVec 1 := Scalar.andi v54 v51
  let v56 : BitVec 32 := Scalar.addi v50 v49
  let v57 : BitVec 32 := Scalar.select v55 v56 v50
  let v76 : BitVec 32 := Scalar.subi c1_i32_66 v57
  ![v76.toNat]
def k0_off2 (k0_t1 : Fin k0_t1_loop.trips) : Fin 3 → Nat :=
  let c1_i32_66 : BitVec 32 := 1#32
  let c0_i32_40 : BitVec 32 := 0#32
  let c1_i32 : BitVec 32 := 1#32
  let arg16 : BitVec 32 := Scf.iv c0_i32_40 c1_i32 k0_t1
  let c2_i32 : BitVec 32 := 2#32
  let c0_i32_48 : BitVec 32 := 0#32
  let v48 : BitVec 1 := Scalar.cmpi .eq c2_i32 c0_i32_48
  let c1_i32_49 : BitVec 32 := 1#32
  let v49 : BitVec 32 := Scalar.select v48 c1_i32_49 c2_i32
  let v50 : BitVec 32 := Scalar.remsi arg16 v49
  let c0_i32_51 : BitVec 32 := 0#32
  let v52 : BitVec 1 := Scalar.cmpi .slt v50 c0_i32_51
  let c0_i32_52 : BitVec 32 := 0#32
  let v53 : BitVec 1 := Scalar.cmpi .slt v49 c0_i32_52
  let v54 : BitVec 1 := Scalar.xori v52 v53
  let c0_i32_50 : BitVec 32 := 0#32
  let v51 : BitVec 1 := Scalar.cmpi .ne v50 c0_i32_50
  let v55 : BitVec 1 := Scalar.andi v54 v51
  let v56 : BitVec 32 := Scalar.addi v50 v49
  let v57 : BitVec 32 := Scalar.select v55 v56 v50
  let v76 : BitVec 32 := Scalar.subi c1_i32_66 v57
  let c0_i32_68 : BitVec 32 := 0#32
  let c0_i32_69 : BitVec 32 := 0#32
  ![v76.toNat, 0, 0]
def k0_off3 (k0_t1 : Fin k0_t1_loop.trips) : Fin 2 → Nat :=
  let c0_i32_40 : BitVec 32 := 0#32
  let c1_i32 : BitVec 32 := 1#32
  let arg16 : BitVec 32 := Scf.iv c0_i32_40 c1_i32 k0_t1
  let c1_i32_65 : BitVec 32 := 1#32
  let v75 : BitVec 32 := Scalar.addi arg16 c1_i32_65
  let c256_i32_67 : BitVec 32 := 256#32
  let v77 : BitVec 32 := Scalar.muli v75 c256_i32_67
  let c0_i32_70 : BitVec 32 := 0#32
  ![v77.toNat, 0]
def k0_off4 (k0_t1 : Fin k0_t1_loop.trips) : Fin 1 → Nat :=
  let c0_i32_40 : BitVec 32 := 0#32
  let c1_i32 : BitVec 32 := 1#32
  let arg16 : BitVec 32 := Scf.iv c0_i32_40 c1_i32 k0_t1
  let c2_i32 : BitVec 32 := 2#32
  let c0_i32_48 : BitVec 32 := 0#32
  let v48 : BitVec 1 := Scalar.cmpi .eq c2_i32 c0_i32_48
  let c1_i32_49 : BitVec 32 := 1#32
  let v49 : BitVec 32 := Scalar.select v48 c1_i32_49 c2_i32
  let v50 : BitVec 32 := Scalar.remsi arg16 v49
  let c0_i32_51 : BitVec 32 := 0#32
  let v52 : BitVec 1 := Scalar.cmpi .slt v50 c0_i32_51
  let c0_i32_52 : BitVec 32 := 0#32
  let v53 : BitVec 1 := Scalar.cmpi .slt v49 c0_i32_52
  let v54 : BitVec 1 := Scalar.xori v52 v53
  let c0_i32_50 : BitVec 32 := 0#32
  let v51 : BitVec 1 := Scalar.cmpi .ne v50 c0_i32_50
  let v55 : BitVec 1 := Scalar.andi v54 v51
  let v56 : BitVec 32 := Scalar.addi v50 v49
  let v57 : BitVec 32 := Scalar.select v55 v56 v50
  ![v57.toNat]
def k0_off5 (k0_t1 : Fin k0_t1_loop.trips) : Fin 3 → Nat :=
  let c0_i32_40 : BitVec 32 := 0#32
  let c1_i32 : BitVec 32 := 1#32
  let arg16 : BitVec 32 := Scf.iv c0_i32_40 c1_i32 k0_t1
  let c2_i32 : BitVec 32 := 2#32
  let c0_i32_48 : BitVec 32 := 0#32
  let v48 : BitVec 1 := Scalar.cmpi .eq c2_i32 c0_i32_48
  let c1_i32_49 : BitVec 32 := 1#32
  let v49 : BitVec 32 := Scalar.select v48 c1_i32_49 c2_i32
  let v50 : BitVec 32 := Scalar.remsi arg16 v49
  let c0_i32_51 : BitVec 32 := 0#32
  let v52 : BitVec 1 := Scalar.cmpi .slt v50 c0_i32_51
  let c0_i32_52 : BitVec 32 := 0#32
  let v53 : BitVec 1 := Scalar.cmpi .slt v49 c0_i32_52
  let v54 : BitVec 1 := Scalar.xori v52 v53
  let c0_i32_50 : BitVec 32 := 0#32
  let v51 : BitVec 1 := Scalar.cmpi .ne v50 c0_i32_50
  let v55 : BitVec 1 := Scalar.andi v54 v51
  let v56 : BitVec 32 := Scalar.addi v50 v49
  let v57 : BitVec 32 := Scalar.select v55 v56 v50
  let c0_i32_56 : BitVec 32 := 0#32
  let c0_i32_57 : BitVec 32 := 0#32
  ![v57.toNat, 0, 0]
def k0_off6 (k0_t1 : Fin k0_t1_loop.trips) : Fin 2 → Nat :=
  let c0_i32_40 : BitVec 32 := 0#32
  let c1_i32 : BitVec 32 := 1#32
  let arg16 : BitVec 32 := Scf.iv c0_i32_40 c1_i32 k0_t1
  let c256_i32 : BitVec 32 := 256#32
  let v62 : BitVec 32 := Scalar.muli arg16 c256_i32
  let c0_i32_58 : BitVec 32 := 0#32
  ![v62.toNat, 0]
@[reducible] def k0_t2_loop : Scf.Loop 32 :=
  let c0_i32_62 : BitVec 32 := 0#32
  let c54_i32 : BitVec 32 := 54#32
  let v74 : BitVec 32 := Scalar.addi c0_i32_62 c54_i32
  let c1_i32_63 : BitVec 32 := 1#32
  ⟨c0_i32_62, v74, c1_i32_63⟩
def k0_mult1 (k0_t2 : Fin k0_t2_loop.trips) : BitVec 32 :=
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  v75
def k0_mult2 (k0_t1 : Fin k0_t1_loop.trips) : BitVec 32 :=
  let c0_i32_40 : BitVec 32 := 0#32
  let c1_i32 : BitVec 32 := 1#32
  let arg16 : BitVec 32 := Scf.iv c0_i32_40 c1_i32 k0_t1
  let c8_i32 : BitVec 32 := 8#32
  let v77 : BitVec 32 := Scalar.muli arg16 c8_i32
  v77
def k0_off7 (k0_t1 : Fin k0_t1_loop.trips) (k0_t2 : Fin k0_t2_loop.trips) : Fin 2 → Nat :=
  let c0_i32_40 : BitVec 32 := 0#32
  let c1_i32 : BitVec 32 := 1#32
  let arg16 : BitVec 32 := Scf.iv c0_i32_40 c1_i32 k0_t1
  let c8_i32 : BitVec 32 := 8#32
  let v77 : BitVec 32 := Scalar.muli arg16 c8_i32
  let v78 : BitVec 32 := v77
  let v79 : Index := Scalar.indexCast v78
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v80 : Index := Scalar.indexCast v76
  ![v79.toNat, v80.toNat]
def k0_off8 (k0_t1 : Fin k0_t1_loop.trips) : Fin 3 → Nat :=
  let c0_i32_40 : BitVec 32 := 0#32
  let c1_i32 : BitVec 32 := 1#32
  let arg16 : BitVec 32 := Scf.iv c0_i32_40 c1_i32 k0_t1
  let c2_i32 : BitVec 32 := 2#32
  let c0_i32_48 : BitVec 32 := 0#32
  let v48 : BitVec 1 := Scalar.cmpi .eq c2_i32 c0_i32_48
  let c1_i32_49 : BitVec 32 := 1#32
  let v49 : BitVec 32 := Scalar.select v48 c1_i32_49 c2_i32
  let v50 : BitVec 32 := Scalar.remsi arg16 v49
  let c0_i32_51 : BitVec 32 := 0#32
  let v52 : BitVec 1 := Scalar.cmpi .slt v50 c0_i32_51
  let c0_i32_52 : BitVec 32 := 0#32
  let v53 : BitVec 1 := Scalar.cmpi .slt v49 c0_i32_52
  let v54 : BitVec 1 := Scalar.xori v52 v53
  let c0_i32_50 : BitVec 32 := 0#32
  let v51 : BitVec 1 := Scalar.cmpi .ne v50 c0_i32_50
  let v55 : BitVec 1 := Scalar.andi v54 v51
  let v56 : BitVec 32 := Scalar.addi v50 v49
  let v57 : BitVec 32 := Scalar.select v55 v56 v50
  let c0_i32_65 : BitVec 32 := 0#32
  let c0_i32_66 : BitVec 32 := 0#32
  ![v57.toNat, 0, 0]
def k0_off9 (k0_t2 : Fin k0_t2_loop.trips) : Fin 2 → Nat :=
  let c0_67 : Index := 0#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v88 : Index := Scalar.indexCast v76
  ![0, v88.toNat]
def k0_mult3 (k0_t1 : Fin k0_t1_loop.trips) : BitVec 32 :=
  let c2_i32_72 : BitVec 32 := 2#32
  let c0_i32_40 : BitVec 32 := 0#32
  let c1_i32 : BitVec 32 := 1#32
  let arg16 : BitVec 32 := Scf.iv c0_i32_40 c1_i32 k0_t1
  let c256_i32_69 : BitVec 32 := 256#32
  let v105 : BitVec 32 := Scalar.muli arg16 c256_i32_69
  let c0_i32_70 : BitVec 32 := 0#32
  let v106 : BitVec 32 := Scalar.addi v105 c0_i32_70
  let c0_i32_71 : BitVec 32 := 0#32
  let v107 : BitVec 32 := Scalar.addi v106 c0_i32_71
  let v108 : BitVec 32 := Scalar.muli c2_i32_72 v107
  v108
def k0_off10 (k0_t1 : Fin k0_t1_loop.trips) (k0_t2 : Fin k0_t2_loop.trips) (c0_i32_70 : BitVec 32) (c0_i32_71 : BitVec 32) : Fin 2 → Nat :=
  let c2_i32_72 : BitVec 32 := 2#32
  let c0_i32_40 : BitVec 32 := 0#32
  let c1_i32 : BitVec 32 := 1#32
  let arg16 : BitVec 32 := Scf.iv c0_i32_40 c1_i32 k0_t1
  let c256_i32_69 : BitVec 32 := 256#32
  let v105 : BitVec 32 := Scalar.muli arg16 c256_i32_69
  let v106 : BitVec 32 := Scalar.addi v105 c0_i32_70
  let v107 : BitVec 32 := Scalar.addi v106 c0_i32_71
  let v108 : BitVec 32 := Scalar.muli c2_i32_72 v107
  let v109 : BitVec 32 := v108
  let v110 : Index := Scalar.indexCast v109
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v111 : Index := Scalar.indexCast v76
  ![v110.toNat, v111.toNat]
def k0_mult4 (k0_t1 : Fin k0_t1_loop.trips) : BitVec 32 :=
  let c2_i32_78 : BitVec 32 := 2#32
  let c0_i32_40 : BitVec 32 := 0#32
  let c1_i32 : BitVec 32 := 1#32
  let arg16 : BitVec 32 := Scf.iv c0_i32_40 c1_i32 k0_t1
  let c256_i32_75 : BitVec 32 := 256#32
  let v129 : BitVec 32 := Scalar.muli arg16 c256_i32_75
  let c0_i32_76 : BitVec 32 := 0#32
  let v130 : BitVec 32 := Scalar.addi v129 c0_i32_76
  let c8_i32_77 : BitVec 32 := 8#32
  let v131 : BitVec 32 := Scalar.addi v130 c8_i32_77
  let v132 : BitVec 32 := Scalar.muli c2_i32_78 v131
  v132
def k0_mult5 (k0_t1 : Fin k0_t1_loop.trips) : BitVec 32 :=
  let c2_i32_83 : BitVec 32 := 2#32
  let c0_i32_40 : BitVec 32 := 0#32
  let c1_i32 : BitVec 32 := 1#32
  let arg16 : BitVec 32 := Scf.iv c0_i32_40 c1_i32 k0_t1
  let c256_i32_81 : BitVec 32 := 256#32
  let v153 : BitVec 32 := Scalar.muli arg16 c256_i32_81
  let c0_i32_82 : BitVec 32 := 0#32
  let v154 : BitVec 32 := Scalar.addi v153 c0_i32_82
  let c16_i32 : BitVec 32 := 16#32
  let v155 : BitVec 32 := Scalar.addi v154 c16_i32
  let v156 : BitVec 32 := Scalar.muli c2_i32_83 v155
  v156
def k0_mult6 (k0_t1 : Fin k0_t1_loop.trips) : BitVec 32 :=
  let c2_i32_88 : BitVec 32 := 2#32
  let c0_i32_40 : BitVec 32 := 0#32
  let c1_i32 : BitVec 32 := 1#32
  let arg16 : BitVec 32 := Scf.iv c0_i32_40 c1_i32 k0_t1
  let c256_i32_86 : BitVec 32 := 256#32
  let v177 : BitVec 32 := Scalar.muli arg16 c256_i32_86
  let c0_i32_87 : BitVec 32 := 0#32
  let v178 : BitVec 32 := Scalar.addi v177 c0_i32_87
  let c24_i32 : BitVec 32 := 24#32
  let v179 : BitVec 32 := Scalar.addi v178 c24_i32
  let v180 : BitVec 32 := Scalar.muli c2_i32_88 v179
  v180
def k0_off11 (k0_t2 : Fin k0_t2_loop.trips) : Fin 2 → Nat :=
  let c32 : Index := 32#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v192 : Index := Scalar.indexCast v76
  ![32, v192.toNat]
def k0_mult7 (k0_t1 : Fin k0_t1_loop.trips) : BitVec 32 :=
  let c2_i32_95 : BitVec 32 := 2#32
  let c0_i32_40 : BitVec 32 := 0#32
  let c1_i32 : BitVec 32 := 1#32
  let arg16 : BitVec 32 := Scf.iv c0_i32_40 c1_i32 k0_t1
  let c256_i32_93 : BitVec 32 := 256#32
  let v209 : BitVec 32 := Scalar.muli arg16 c256_i32_93
  let c32_i32 : BitVec 32 := 32#32
  let v210 : BitVec 32 := Scalar.addi v209 c32_i32
  let c0_i32_94 : BitVec 32 := 0#32
  let v211 : BitVec 32 := Scalar.addi v210 c0_i32_94
  let v212 : BitVec 32 := Scalar.muli c2_i32_95 v211
  v212
def k0_mult8 (k0_t1 : Fin k0_t1_loop.trips) : BitVec 32 :=
  let c2_i32_101 : BitVec 32 := 2#32
  let c0_i32_40 : BitVec 32 := 0#32
  let c1_i32 : BitVec 32 := 1#32
  let arg16 : BitVec 32 := Scf.iv c0_i32_40 c1_i32 k0_t1
  let c256_i32_98 : BitVec 32 := 256#32
  let v233 : BitVec 32 := Scalar.muli arg16 c256_i32_98
  let c32_i32_99 : BitVec 32 := 32#32
  let v234 : BitVec 32 := Scalar.addi v233 c32_i32_99
  let c8_i32_100 : BitVec 32 := 8#32
  let v235 : BitVec 32 := Scalar.addi v234 c8_i32_100
  let v236 : BitVec 32 := Scalar.muli c2_i32_101 v235
  v236
def k0_mult9 (k0_t1 : Fin k0_t1_loop.trips) : BitVec 32 :=
  let c2_i32_107 : BitVec 32 := 2#32
  let c0_i32_40 : BitVec 32 := 0#32
  let c1_i32 : BitVec 32 := 1#32
  let arg16 : BitVec 32 := Scf.iv c0_i32_40 c1_i32 k0_t1
  let c256_i32_104 : BitVec 32 := 256#32
  let v257 : BitVec 32 := Scalar.muli arg16 c256_i32_104
  let c32_i32_105 : BitVec 32 := 32#32
  let v258 : BitVec 32 := Scalar.addi v257 c32_i32_105
  let c16_i32_106 : BitVec 32 := 16#32
  let v259 : BitVec 32 := Scalar.addi v258 c16_i32_106
  let v260 : BitVec 32 := Scalar.muli c2_i32_107 v259
  v260
def k0_mult10 (k0_t1 : Fin k0_t1_loop.trips) : BitVec 32 :=
  let c2_i32_113 : BitVec 32 := 2#32
  let c0_i32_40 : BitVec 32 := 0#32
  let c1_i32 : BitVec 32 := 1#32
  let arg16 : BitVec 32 := Scf.iv c0_i32_40 c1_i32 k0_t1
  let c256_i32_110 : BitVec 32 := 256#32
  let v281 : BitVec 32 := Scalar.muli arg16 c256_i32_110
  let c32_i32_111 : BitVec 32 := 32#32
  let v282 : BitVec 32 := Scalar.addi v281 c32_i32_111
  let c24_i32_112 : BitVec 32 := 24#32
  let v283 : BitVec 32 := Scalar.addi v282 c24_i32_112
  let v284 : BitVec 32 := Scalar.muli c2_i32_113 v283
  v284
def k0_off12 (k0_t2 : Fin k0_t2_loop.trips) : Fin 2 → Nat :=
  let c64 : Index := 64#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v296 : Index := Scalar.indexCast v76
  ![64, v296.toNat]
def k0_mult11 (k0_t1 : Fin k0_t1_loop.trips) : BitVec 32 :=
  let c2_i32_120 : BitVec 32 := 2#32
  let c0_i32_40 : BitVec 32 := 0#32
  let c1_i32 : BitVec 32 := 1#32
  let arg16 : BitVec 32 := Scf.iv c0_i32_40 c1_i32 k0_t1
  let c256_i32_118 : BitVec 32 := 256#32
  let v313 : BitVec 32 := Scalar.muli arg16 c256_i32_118
  let c64_i32 : BitVec 32 := 64#32
  let v314 : BitVec 32 := Scalar.addi v313 c64_i32
  let c0_i32_119 : BitVec 32 := 0#32
  let v315 : BitVec 32 := Scalar.addi v314 c0_i32_119
  let v316 : BitVec 32 := Scalar.muli c2_i32_120 v315
  v316
def k0_mult12 (k0_t1 : Fin k0_t1_loop.trips) : BitVec 32 :=
  let c2_i32_126 : BitVec 32 := 2#32
  let c0_i32_40 : BitVec 32 := 0#32
  let c1_i32 : BitVec 32 := 1#32
  let arg16 : BitVec 32 := Scf.iv c0_i32_40 c1_i32 k0_t1
  let c256_i32_123 : BitVec 32 := 256#32
  let v337 : BitVec 32 := Scalar.muli arg16 c256_i32_123
  let c64_i32_124 : BitVec 32 := 64#32
  let v338 : BitVec 32 := Scalar.addi v337 c64_i32_124
  let c8_i32_125 : BitVec 32 := 8#32
  let v339 : BitVec 32 := Scalar.addi v338 c8_i32_125
  let v340 : BitVec 32 := Scalar.muli c2_i32_126 v339
  v340
def k0_mult13 (k0_t1 : Fin k0_t1_loop.trips) : BitVec 32 :=
  let c2_i32_132 : BitVec 32 := 2#32
  let c0_i32_40 : BitVec 32 := 0#32
  let c1_i32 : BitVec 32 := 1#32
  let arg16 : BitVec 32 := Scf.iv c0_i32_40 c1_i32 k0_t1
  let c256_i32_129 : BitVec 32 := 256#32
  let v361 : BitVec 32 := Scalar.muli arg16 c256_i32_129
  let c64_i32_130 : BitVec 32 := 64#32
  let v362 : BitVec 32 := Scalar.addi v361 c64_i32_130
  let c16_i32_131 : BitVec 32 := 16#32
  let v363 : BitVec 32 := Scalar.addi v362 c16_i32_131
  let v364 : BitVec 32 := Scalar.muli c2_i32_132 v363
  v364
def k0_mult14 (k0_t1 : Fin k0_t1_loop.trips) : BitVec 32 :=
  let c2_i32_138 : BitVec 32 := 2#32
  let c0_i32_40 : BitVec 32 := 0#32
  let c1_i32 : BitVec 32 := 1#32
  let arg16 : BitVec 32 := Scf.iv c0_i32_40 c1_i32 k0_t1
  let c256_i32_135 : BitVec 32 := 256#32
  let v385 : BitVec 32 := Scalar.muli arg16 c256_i32_135
  let c64_i32_136 : BitVec 32 := 64#32
  let v386 : BitVec 32 := Scalar.addi v385 c64_i32_136
  let c24_i32_137 : BitVec 32 := 24#32
  let v387 : BitVec 32 := Scalar.addi v386 c24_i32_137
  let v388 : BitVec 32 := Scalar.muli c2_i32_138 v387
  v388
def k0_off13 (k0_t2 : Fin k0_t2_loop.trips) : Fin 2 → Nat :=
  let c96 : Index := 96#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v400 : Index := Scalar.indexCast v76
  ![96, v400.toNat]
def k0_mult15 (k0_t1 : Fin k0_t1_loop.trips) : BitVec 32 :=
  let c2_i32_145 : BitVec 32 := 2#32
  let c0_i32_40 : BitVec 32 := 0#32
  let c1_i32 : BitVec 32 := 1#32
  let arg16 : BitVec 32 := Scf.iv c0_i32_40 c1_i32 k0_t1
  let c256_i32_143 : BitVec 32 := 256#32
  let v417 : BitVec 32 := Scalar.muli arg16 c256_i32_143
  let c96_i32 : BitVec 32 := 96#32
  let v418 : BitVec 32 := Scalar.addi v417 c96_i32
  let c0_i32_144 : BitVec 32 := 0#32
  let v419 : BitVec 32 := Scalar.addi v418 c0_i32_144
  let v420 : BitVec 32 := Scalar.muli c2_i32_145 v419
  v420
def k0_mult16 (k0_t1 : Fin k0_t1_loop.trips) : BitVec 32 :=
  let c2_i32_151 : BitVec 32 := 2#32
  let c0_i32_40 : BitVec 32 := 0#32
  let c1_i32 : BitVec 32 := 1#32
  let arg16 : BitVec 32 := Scf.iv c0_i32_40 c1_i32 k0_t1
  let c256_i32_148 : BitVec 32 := 256#32
  let v441 : BitVec 32 := Scalar.muli arg16 c256_i32_148
  let c96_i32_149 : BitVec 32 := 96#32
  let v442 : BitVec 32 := Scalar.addi v441 c96_i32_149
  let c8_i32_150 : BitVec 32 := 8#32
  let v443 : BitVec 32 := Scalar.addi v442 c8_i32_150
  let v444 : BitVec 32 := Scalar.muli c2_i32_151 v443
  v444
def k0_mult17 (k0_t1 : Fin k0_t1_loop.trips) : BitVec 32 :=
  let c2_i32_157 : BitVec 32 := 2#32
  let c0_i32_40 : BitVec 32 := 0#32
  let c1_i32 : BitVec 32 := 1#32
  let arg16 : BitVec 32 := Scf.iv c0_i32_40 c1_i32 k0_t1
  let c256_i32_154 : BitVec 32 := 256#32
  let v465 : BitVec 32 := Scalar.muli arg16 c256_i32_154
  let c96_i32_155 : BitVec 32 := 96#32
  let v466 : BitVec 32 := Scalar.addi v465 c96_i32_155
  let c16_i32_156 : BitVec 32 := 16#32
  let v467 : BitVec 32 := Scalar.addi v466 c16_i32_156
  let v468 : BitVec 32 := Scalar.muli c2_i32_157 v467
  v468
def k0_mult18 (k0_t1 : Fin k0_t1_loop.trips) : BitVec 32 :=
  let c2_i32_163 : BitVec 32 := 2#32
  let c0_i32_40 : BitVec 32 := 0#32
  let c1_i32 : BitVec 32 := 1#32
  let arg16 : BitVec 32 := Scf.iv c0_i32_40 c1_i32 k0_t1
  let c256_i32_160 : BitVec 32 := 256#32
  let v489 : BitVec 32 := Scalar.muli arg16 c256_i32_160
  let c96_i32_161 : BitVec 32 := 96#32
  let v490 : BitVec 32 := Scalar.addi v489 c96_i32_161
  let c24_i32_162 : BitVec 32 := 24#32
  let v491 : BitVec 32 := Scalar.addi v490 c24_i32_162
  let v492 : BitVec 32 := Scalar.muli c2_i32_163 v491
  v492
def k0_off14 (k0_t2 : Fin k0_t2_loop.trips) : Fin 2 → Nat :=
  let c128 : Index := 128#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v504 : Index := Scalar.indexCast v76
  ![128, v504.toNat]
def k0_mult19 (k0_t1 : Fin k0_t1_loop.trips) : BitVec 32 :=
  let c2_i32_171 : BitVec 32 := 2#32
  let c0_i32_40 : BitVec 32 := 0#32
  let c1_i32 : BitVec 32 := 1#32
  let arg16 : BitVec 32 := Scf.iv c0_i32_40 c1_i32 k0_t1
  let c256_i32_168 : BitVec 32 := 256#32
  let v521 : BitVec 32 := Scalar.muli arg16 c256_i32_168
  let c128_i32_169 : BitVec 32 := 128#32
  let v522 : BitVec 32 := Scalar.addi v521 c128_i32_169
  let c0_i32_170 : BitVec 32 := 0#32
  let v523 : BitVec 32 := Scalar.addi v522 c0_i32_170
  let v524 : BitVec 32 := Scalar.muli c2_i32_171 v523
  v524
def k0_mult20 (k0_t1 : Fin k0_t1_loop.trips) : BitVec 32 :=
  let c2_i32_177 : BitVec 32 := 2#32
  let c0_i32_40 : BitVec 32 := 0#32
  let c1_i32 : BitVec 32 := 1#32
  let arg16 : BitVec 32 := Scf.iv c0_i32_40 c1_i32 k0_t1
  let c256_i32_174 : BitVec 32 := 256#32
  let v545 : BitVec 32 := Scalar.muli arg16 c256_i32_174
  let c128_i32_175 : BitVec 32 := 128#32
  let v546 : BitVec 32 := Scalar.addi v545 c128_i32_175
  let c8_i32_176 : BitVec 32 := 8#32
  let v547 : BitVec 32 := Scalar.addi v546 c8_i32_176
  let v548 : BitVec 32 := Scalar.muli c2_i32_177 v547
  v548
def k0_mult21 (k0_t1 : Fin k0_t1_loop.trips) : BitVec 32 :=
  let c2_i32_183 : BitVec 32 := 2#32
  let c0_i32_40 : BitVec 32 := 0#32
  let c1_i32 : BitVec 32 := 1#32
  let arg16 : BitVec 32 := Scf.iv c0_i32_40 c1_i32 k0_t1
  let c256_i32_180 : BitVec 32 := 256#32
  let v569 : BitVec 32 := Scalar.muli arg16 c256_i32_180
  let c128_i32_181 : BitVec 32 := 128#32
  let v570 : BitVec 32 := Scalar.addi v569 c128_i32_181
  let c16_i32_182 : BitVec 32 := 16#32
  let v571 : BitVec 32 := Scalar.addi v570 c16_i32_182
  let v572 : BitVec 32 := Scalar.muli c2_i32_183 v571
  v572
def k0_mult22 (k0_t1 : Fin k0_t1_loop.trips) : BitVec 32 :=
  let c2_i32_189 : BitVec 32 := 2#32
  let c0_i32_40 : BitVec 32 := 0#32
  let c1_i32 : BitVec 32 := 1#32
  let arg16 : BitVec 32 := Scf.iv c0_i32_40 c1_i32 k0_t1
  let c256_i32_186 : BitVec 32 := 256#32
  let v593 : BitVec 32 := Scalar.muli arg16 c256_i32_186
  let c128_i32_187 : BitVec 32 := 128#32
  let v594 : BitVec 32 := Scalar.addi v593 c128_i32_187
  let c24_i32_188 : BitVec 32 := 24#32
  let v595 : BitVec 32 := Scalar.addi v594 c24_i32_188
  let v596 : BitVec 32 := Scalar.muli c2_i32_189 v595
  v596
def k0_off15 (k0_t2 : Fin k0_t2_loop.trips) : Fin 2 → Nat :=
  let c160 : Index := 160#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v608 : Index := Scalar.indexCast v76
  ![160, v608.toNat]
def k0_mult23 (k0_t1 : Fin k0_t1_loop.trips) : BitVec 32 :=
  let c2_i32_196 : BitVec 32 := 2#32
  let c0_i32_40 : BitVec 32 := 0#32
  let c1_i32 : BitVec 32 := 1#32
  let arg16 : BitVec 32 := Scf.iv c0_i32_40 c1_i32 k0_t1
  let c256_i32_194 : BitVec 32 := 256#32
  let v625 : BitVec 32 := Scalar.muli arg16 c256_i32_194
  let c160_i32 : BitVec 32 := 160#32
  let v626 : BitVec 32 := Scalar.addi v625 c160_i32
  let c0_i32_195 : BitVec 32 := 0#32
  let v627 : BitVec 32 := Scalar.addi v626 c0_i32_195
  let v628 : BitVec 32 := Scalar.muli c2_i32_196 v627
  v628
def k0_mult24 (k0_t1 : Fin k0_t1_loop.trips) : BitVec 32 :=
  let c2_i32_202 : BitVec 32 := 2#32
  let c0_i32_40 : BitVec 32 := 0#32
  let c1_i32 : BitVec 32 := 1#32
  let arg16 : BitVec 32 := Scf.iv c0_i32_40 c1_i32 k0_t1
  let c256_i32_199 : BitVec 32 := 256#32
  let v649 : BitVec 32 := Scalar.muli arg16 c256_i32_199
  let c160_i32_200 : BitVec 32 := 160#32
  let v650 : BitVec 32 := Scalar.addi v649 c160_i32_200
  let c8_i32_201 : BitVec 32 := 8#32
  let v651 : BitVec 32 := Scalar.addi v650 c8_i32_201
  let v652 : BitVec 32 := Scalar.muli c2_i32_202 v651
  v652
def k0_mult25 (k0_t1 : Fin k0_t1_loop.trips) : BitVec 32 :=
  let c2_i32_208 : BitVec 32 := 2#32
  let c0_i32_40 : BitVec 32 := 0#32
  let c1_i32 : BitVec 32 := 1#32
  let arg16 : BitVec 32 := Scf.iv c0_i32_40 c1_i32 k0_t1
  let c256_i32_205 : BitVec 32 := 256#32
  let v673 : BitVec 32 := Scalar.muli arg16 c256_i32_205
  let c160_i32_206 : BitVec 32 := 160#32
  let v674 : BitVec 32 := Scalar.addi v673 c160_i32_206
  let c16_i32_207 : BitVec 32 := 16#32
  let v675 : BitVec 32 := Scalar.addi v674 c16_i32_207
  let v676 : BitVec 32 := Scalar.muli c2_i32_208 v675
  v676
def k0_mult26 (k0_t1 : Fin k0_t1_loop.trips) : BitVec 32 :=
  let c2_i32_214 : BitVec 32 := 2#32
  let c0_i32_40 : BitVec 32 := 0#32
  let c1_i32 : BitVec 32 := 1#32
  let arg16 : BitVec 32 := Scf.iv c0_i32_40 c1_i32 k0_t1
  let c256_i32_211 : BitVec 32 := 256#32
  let v697 : BitVec 32 := Scalar.muli arg16 c256_i32_211
  let c160_i32_212 : BitVec 32 := 160#32
  let v698 : BitVec 32 := Scalar.addi v697 c160_i32_212
  let c24_i32_213 : BitVec 32 := 24#32
  let v699 : BitVec 32 := Scalar.addi v698 c24_i32_213
  let v700 : BitVec 32 := Scalar.muli c2_i32_214 v699
  v700
def k0_off16 (k0_t2 : Fin k0_t2_loop.trips) : Fin 2 → Nat :=
  let c192 : Index := 192#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v712 : Index := Scalar.indexCast v76
  ![192, v712.toNat]
def k0_mult27 (k0_t1 : Fin k0_t1_loop.trips) : BitVec 32 :=
  let c2_i32_221 : BitVec 32 := 2#32
  let c0_i32_40 : BitVec 32 := 0#32
  let c1_i32 : BitVec 32 := 1#32
  let arg16 : BitVec 32 := Scf.iv c0_i32_40 c1_i32 k0_t1
  let c256_i32_219 : BitVec 32 := 256#32
  let v729 : BitVec 32 := Scalar.muli arg16 c256_i32_219
  let c192_i32 : BitVec 32 := 192#32
  let v730 : BitVec 32 := Scalar.addi v729 c192_i32
  let c0_i32_220 : BitVec 32 := 0#32
  let v731 : BitVec 32 := Scalar.addi v730 c0_i32_220
  let v732 : BitVec 32 := Scalar.muli c2_i32_221 v731
  v732
def k0_mult28 (k0_t1 : Fin k0_t1_loop.trips) : BitVec 32 :=
  let c2_i32_227 : BitVec 32 := 2#32
  let c0_i32_40 : BitVec 32 := 0#32
  let c1_i32 : BitVec 32 := 1#32
  let arg16 : BitVec 32 := Scf.iv c0_i32_40 c1_i32 k0_t1
  let c256_i32_224 : BitVec 32 := 256#32
  let v753 : BitVec 32 := Scalar.muli arg16 c256_i32_224
  let c192_i32_225 : BitVec 32 := 192#32
  let v754 : BitVec 32 := Scalar.addi v753 c192_i32_225
  let c8_i32_226 : BitVec 32 := 8#32
  let v755 : BitVec 32 := Scalar.addi v754 c8_i32_226
  let v756 : BitVec 32 := Scalar.muli c2_i32_227 v755
  v756
def k0_mult29 (k0_t1 : Fin k0_t1_loop.trips) : BitVec 32 :=
  let c2_i32_233 : BitVec 32 := 2#32
  let c0_i32_40 : BitVec 32 := 0#32
  let c1_i32 : BitVec 32 := 1#32
  let arg16 : BitVec 32 := Scf.iv c0_i32_40 c1_i32 k0_t1
  let c256_i32_230 : BitVec 32 := 256#32
  let v777 : BitVec 32 := Scalar.muli arg16 c256_i32_230
  let c192_i32_231 : BitVec 32 := 192#32
  let v778 : BitVec 32 := Scalar.addi v777 c192_i32_231
  let c16_i32_232 : BitVec 32 := 16#32
  let v779 : BitVec 32 := Scalar.addi v778 c16_i32_232
  let v780 : BitVec 32 := Scalar.muli c2_i32_233 v779
  v780
def k0_mult30 (k0_t1 : Fin k0_t1_loop.trips) : BitVec 32 :=
  let c2_i32_239 : BitVec 32 := 2#32
  let c0_i32_40 : BitVec 32 := 0#32
  let c1_i32 : BitVec 32 := 1#32
  let arg16 : BitVec 32 := Scf.iv c0_i32_40 c1_i32 k0_t1
  let c256_i32_236 : BitVec 32 := 256#32
  let v801 : BitVec 32 := Scalar.muli arg16 c256_i32_236
  let c192_i32_237 : BitVec 32 := 192#32
  let v802 : BitVec 32 := Scalar.addi v801 c192_i32_237
  let c24_i32_238 : BitVec 32 := 24#32
  let v803 : BitVec 32 := Scalar.addi v802 c24_i32_238
  let v804 : BitVec 32 := Scalar.muli c2_i32_239 v803
  v804
def k0_off17 (k0_t2 : Fin k0_t2_loop.trips) : Fin 2 → Nat :=
  let c224 : Index := 224#32
  let c0_i32_62 : BitVec 32 := 0#32
  let c1_i32_63 : BitVec 32 := 1#32
  let arg17 : BitVec 32 := Scf.iv c0_i32_62 c1_i32_63 k0_t2
  let c128_i32 : BitVec 32 := 128#32
  let v75 : BitVec 32 := Scalar.muli arg17 c128_i32
  let v76 : BitVec 32 := v75
  let v816 : Index := Scalar.indexCast v76
  ![224, v816.toNat]
def k0_mult31 (k0_t1 : Fin k0_t1_loop.trips) : BitVec 32 :=
  let c2_i32_246 : BitVec 32 := 2#32
  let c0_i32_40 : BitVec 32 := 0#32
  let c1_i32 : BitVec 32 := 1#32
  let arg16 : BitVec 32 := Scf.iv c0_i32_40 c1_i32 k0_t1
  let c256_i32_244 : BitVec 32 := 256#32
  let v833 : BitVec 32 := Scalar.muli arg16 c256_i32_244
  let c224_i32 : BitVec 32 := 224#32
  let v834 : BitVec 32 := Scalar.addi v833 c224_i32
  let c0_i32_245 : BitVec 32 := 0#32
  let v835 : BitVec 32 := Scalar.addi v834 c0_i32_245
  let v836 : BitVec 32 := Scalar.muli c2_i32_246 v835
  v836
def k0_mult32 (k0_t1 : Fin k0_t1_loop.trips) : BitVec 32 :=
  let c2_i32_252 : BitVec 32 := 2#32
  let c0_i32_40 : BitVec 32 := 0#32
  let c1_i32 : BitVec 32 := 1#32
  let arg16 : BitVec 32 := Scf.iv c0_i32_40 c1_i32 k0_t1
  let c256_i32_249 : BitVec 32 := 256#32
  let v857 : BitVec 32 := Scalar.muli arg16 c256_i32_249
  let c224_i32_250 : BitVec 32 := 224#32
  let v858 : BitVec 32 := Scalar.addi v857 c224_i32_250
  let c8_i32_251 : BitVec 32 := 8#32
  let v859 : BitVec 32 := Scalar.addi v858 c8_i32_251
  let v860 : BitVec 32 := Scalar.muli c2_i32_252 v859
  v860
def k0_mult33 (k0_t1 : Fin k0_t1_loop.trips) : BitVec 32 :=
  let c2_i32_258 : BitVec 32 := 2#32
  let c0_i32_40 : BitVec 32 := 0#32
  let c1_i32 : BitVec 32 := 1#32
  let arg16 : BitVec 32 := Scf.iv c0_i32_40 c1_i32 k0_t1
  let c256_i32_255 : BitVec 32 := 256#32
  let v881 : BitVec 32 := Scalar.muli arg16 c256_i32_255
  let c224_i32_256 : BitVec 32 := 224#32
  let v882 : BitVec 32 := Scalar.addi v881 c224_i32_256
  let c16_i32_257 : BitVec 32 := 16#32
  let v883 : BitVec 32 := Scalar.addi v882 c16_i32_257
  let v884 : BitVec 32 := Scalar.muli c2_i32_258 v883
  v884
def k0_mult34 (k0_t1 : Fin k0_t1_loop.trips) : BitVec 32 :=
  let c2_i32_264 : BitVec 32 := 2#32
  let c0_i32_40 : BitVec 32 := 0#32
  let c1_i32 : BitVec 32 := 1#32
  let arg16 : BitVec 32 := Scf.iv c0_i32_40 c1_i32 k0_t1
  let c256_i32_261 : BitVec 32 := 256#32
  let v905 : BitVec 32 := Scalar.muli arg16 c256_i32_261
  let c224_i32_262 : BitVec 32 := 224#32
  let v906 : BitVec 32 := Scalar.addi v905 c224_i32_262
  let c24_i32_263 : BitVec 32 := 24#32
  let v907 : BitVec 32 := Scalar.addi v906 c24_i32_263
  let v908 : BitVec 32 := Scalar.muli c2_i32_264 v907
  v908
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x6912 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6912 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2560x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x6912 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x16 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x16 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S24x512x2560 : Shape := ⟨3, ![24, 512, 2560]⟩
abbrev S1280x6912 : Shape := ⟨2, ![1280, 6912]⟩
abbrev S40x6912 : Shape := ⟨2, ![40, 6912]⟩
abbrev S2560x16 : Shape := ⟨2, ![2560, 16]⟩
abbrev S16x6912 : Shape := ⟨2, ![16, 6912]⟩
abbrev S24x512x6912 : Shape := ⟨3, ![24, 512, 6912]⟩
abbrev S_ : Shape := ⟨0, ![]⟩
abbrev S40x32x6912 : Shape := ⟨3, ![40, 32, 6912]⟩
abbrev S40x1x6912 : Shape := ⟨3, ![40, 1, 6912]⟩
abbrev S24x512x1280 : Shape := ⟨3, ![24, 512, 1280]⟩
abbrev S24x512x1280x1 : Shape := ⟨4, ![24, 512, 1280, 1]⟩
abbrev S24x512x1280x2 : Shape := ⟨4, ![24, 512, 1280, 2]⟩
abbrev S24x512x16 : Shape := ⟨3, ![24, 512, 16]⟩
abbrev S12288x2560 : Shape := ⟨2, ![12288, 2560]⟩
abbrev S12288x16 : Shape := ⟨2, ![12288, 16]⟩

abbrev nBuf : Space → Nat
  | .hbm => 194
  | .vmem => 0
  | .smem => 0
  | _ => 0

abbrev hbmTy0_0 (i : Nat) : BufTy := match i % 128 with
  | 0 => ⟨S24x512x2560, .bf16⟩
  | 1 => ⟨S1280x6912, .i8⟩
  | 2 => ⟨S40x6912, .f32⟩
  | 3 => ⟨S2560x16, .bf16⟩
  | 4 => ⟨S16x6912, .bf16⟩
  | 5 => ⟨S24x512x6912, .bf16⟩
  | 6 => ⟨S1280x6912, .i32⟩
  | 7 => ⟨S_, .i32⟩
  | 8 => ⟨S1280x6912, .i32⟩
  | 9 => ⟨S1280x6912, .i32⟩
  | 10 => ⟨S_, .i32⟩
  | 11 => ⟨S1280x6912, .i32⟩
  | 12 => ⟨S1280x6912, .i32⟩
  | 13 => ⟨S_, .i32⟩
  | 14 => ⟨S1280x6912, .i32⟩
  | 15 => ⟨S1280x6912, .i1⟩
  | 16 => ⟨S_, .i32⟩
  | 17 => ⟨S1280x6912, .i32⟩
  | 18 => ⟨S1280x6912, .i32⟩
  | 19 => ⟨S_, .i32⟩
  | 20 => ⟨S1280x6912, .i32⟩
  | 21 => ⟨S1280x6912, .i1⟩
  | 22 => ⟨S_, .i32⟩
  | 23 => ⟨S1280x6912, .i32⟩
  | 24 => ⟨S1280x6912, .i32⟩
  | 25 => ⟨S_, .i32⟩
  | 26 => ⟨S1280x6912, .i32⟩
  | 27 => ⟨S1280x6912, .i1⟩
  | 28 => ⟨S_, .i32⟩
  | 29 => ⟨S1280x6912, .i32⟩
  | 30 => ⟨S1280x6912, .i32⟩
  | 31 => ⟨S_, .i32⟩
  | 32 => ⟨S1280x6912, .i32⟩
  | 33 => ⟨S1280x6912, .i1⟩
  | 34 => ⟨S_, .bf16⟩
  | 35 => ⟨S_, .bf16⟩
  | 36 => ⟨S1280x6912, .bf16⟩
  | 37 => ⟨S1280x6912, .bf16⟩
  | 38 => ⟨S1280x6912, .bf16⟩
  | 39 => ⟨S_, .bf16⟩
  | 40 => ⟨S_, .bf16⟩
  | 41 => ⟨S1280x6912, .bf16⟩
  | 42 => ⟨S1280x6912, .bf16⟩
  | 43 => ⟨S1280x6912, .bf16⟩
  | 44 => ⟨S1280x6912, .bf16⟩
  | 45 => ⟨S_, .bf16⟩
  | 46 => ⟨S_, .bf16⟩
  | 47 => ⟨S1280x6912, .bf16⟩
  | 48 => ⟨S1280x6912, .bf16⟩
  | 49 => ⟨S1280x6912, .bf16⟩
  | 50 => ⟨S_, .bf16⟩
  | 51 => ⟨S_, .bf16⟩
  | 52 => ⟨S1280x6912, .bf16⟩
  | 53 => ⟨S1280x6912, .bf16⟩
  | 54 => ⟨S1280x6912, .bf16⟩
  | 55 => ⟨S1280x6912, .bf16⟩
  | 56 => ⟨S1280x6912, .bf16⟩
  | 57 => ⟨S_, .bf16⟩
  | 58 => ⟨S_, .bf16⟩
  | 59 => ⟨S1280x6912, .bf16⟩
  | 60 => ⟨S1280x6912, .bf16⟩
  | 61 => ⟨S1280x6912, .bf16⟩
  | 62 => ⟨S_, .bf16⟩
  | 63 => ⟨S_, .bf16⟩
  | 64 => ⟨S1280x6912, .bf16⟩
  | 65 => ⟨S1280x6912, .bf16⟩
  | 66 => ⟨S1280x6912, .bf16⟩
  | 67 => ⟨S1280x6912, .bf16⟩
  | 68 => ⟨S_, .bf16⟩
  | 69 => ⟨S_, .bf16⟩
  | 70 => ⟨S1280x6912, .bf16⟩
  | 71 => ⟨S1280x6912, .bf16⟩
  | 72 => ⟨S1280x6912, .bf16⟩
  | 73 => ⟨S_, .bf16⟩
  | 74 => ⟨S_, .bf16⟩
  | 75 => ⟨S1280x6912, .bf16⟩
  | 76 => ⟨S1280x6912, .bf16⟩
  | 77 => ⟨S1280x6912, .bf16⟩
  | 78 => ⟨S1280x6912, .bf16⟩
  | 79 => ⟨S1280x6912, .bf16⟩
  | 80 => ⟨S1280x6912, .bf16⟩
  | 81 => ⟨S40x32x6912, .bf16⟩
  | 82 => ⟨S40x6912, .bf16⟩
  | 83 => ⟨S40x1x6912, .bf16⟩
  | 84 => ⟨S40x32x6912, .bf16⟩
  | 85 => ⟨S40x32x6912, .bf16⟩
  | 86 => ⟨S1280x6912, .bf16⟩
  | 87 => ⟨S_, .i32⟩
  | 88 => ⟨S1280x6912, .i32⟩
  | 89 => ⟨S1280x6912, .i32⟩
  | 90 => ⟨S_, .i32⟩
  | 91 => ⟨S1280x6912, .i32⟩
  | 92 => ⟨S1280x6912, .i32⟩
  | 93 => ⟨S_, .i32⟩
  | 94 => ⟨S1280x6912, .i32⟩
  | 95 => ⟨S1280x6912, .i1⟩
  | 96 => ⟨S_, .i32⟩
  | 97 => ⟨S1280x6912, .i32⟩
  | 98 => ⟨S1280x6912, .i32⟩
  | 99 => ⟨S_, .i32⟩
  | 100 => ⟨S1280x6912, .i32⟩
  | 101 => ⟨S1280x6912, .i1⟩
  | 102 => ⟨S_, .i32⟩
  | 103 => ⟨S1280x6912, .i32⟩
  | 104 => ⟨S1280x6912, .i32⟩
  | 105 => ⟨S_, .i32⟩
  | 106 => ⟨S1280x6912, .i32⟩
  | 107 => ⟨S1280x6912, .i1⟩
  | 108 => ⟨S_, .i32⟩
  | 109 => ⟨S1280x6912, .i32⟩
  | 110 => ⟨S1280x6912, .i32⟩
  | 111 => ⟨S_, .i32⟩
  | 112 => ⟨S1280x6912, .i32⟩
  | 113 => ⟨S1280x6912, .i1⟩
  | 114 => ⟨S_, .bf16⟩
  | 115 => ⟨S_, .bf16⟩
  | 116 => ⟨S1280x6912, .bf16⟩
  | 117 => ⟨S1280x6912, .bf16⟩
  | 118 => ⟨S1280x6912, .bf16⟩
  | 119 => ⟨S_, .bf16⟩
  | 120 => ⟨S_, .bf16⟩
  | 121 => ⟨S1280x6912, .bf16⟩
  | 122 => ⟨S1280x6912, .bf16⟩
  | 123 => ⟨S1280x6912, .bf16⟩
  | 124 => ⟨S1280x6912, .bf16⟩
  | 125 => ⟨S_, .bf16⟩
  | 126 => ⟨S_, .bf16⟩
  | 127 => ⟨S1280x6912, .bf16⟩
  | _ => ⟨S24x512x2560, .bf16⟩

abbrev hbmTy0_1 (i : Nat) : BufTy := match i % 128 with
  | 0 => ⟨S1280x6912, .bf16⟩
  | 1 => ⟨S1280x6912, .bf16⟩
  | 2 => ⟨S_, .bf16⟩
  | 3 => ⟨S_, .bf16⟩
  | 4 => ⟨S1280x6912, .bf16⟩
  | 5 => ⟨S1280x6912, .bf16⟩
  | 6 => ⟨S1280x6912, .bf16⟩
  | 7 => ⟨S1280x6912, .bf16⟩
  | 8 => ⟨S1280x6912, .bf16⟩
  | 9 => ⟨S_, .bf16⟩
  | 10 => ⟨S_, .bf16⟩
  | 11 => ⟨S1280x6912, .bf16⟩
  | 12 => ⟨S1280x6912, .bf16⟩
  | 13 => ⟨S1280x6912, .bf16⟩
  | 14 => ⟨S_, .bf16⟩
  | 15 => ⟨S_, .bf16⟩
  | 16 => ⟨S1280x6912, .bf16⟩
  | 17 => ⟨S1280x6912, .bf16⟩
  | 18 => ⟨S1280x6912, .bf16⟩
  | 19 => ⟨S1280x6912, .bf16⟩
  | 20 => ⟨S_, .bf16⟩
  | 21 => ⟨S_, .bf16⟩
  | 22 => ⟨S1280x6912, .bf16⟩
  | 23 => ⟨S1280x6912, .bf16⟩
  | 24 => ⟨S1280x6912, .bf16⟩
  | 25 => ⟨S_, .bf16⟩
  | 26 => ⟨S_, .bf16⟩
  | 27 => ⟨S1280x6912, .bf16⟩
  | 28 => ⟨S1280x6912, .bf16⟩
  | 29 => ⟨S1280x6912, .bf16⟩
  | 30 => ⟨S1280x6912, .bf16⟩
  | 31 => ⟨S1280x6912, .bf16⟩
  | 32 => ⟨S1280x6912, .bf16⟩
  | 33 => ⟨S40x32x6912, .bf16⟩
  | 34 => ⟨S40x6912, .bf16⟩
  | 35 => ⟨S40x1x6912, .bf16⟩
  | 36 => ⟨S40x32x6912, .bf16⟩
  | 37 => ⟨S40x32x6912, .bf16⟩
  | 38 => ⟨S1280x6912, .bf16⟩
  | 39 => ⟨S24x512x1280, .f32⟩
  | 40 => ⟨S24x512x1280, .f32⟩
  | 41 => ⟨S24x512x1280x1, .f32⟩
  | 42 => ⟨S24x512x1280x1, .f32⟩
  | 43 => ⟨S24x512x1280x2, .f32⟩
  | 44 => ⟨S24x512x2560, .f32⟩
  | 45 => ⟨S24x512x16, .f32⟩
  | 46 => ⟨S24x512x16, .bf16⟩
  | 47 => ⟨S24x512x2560, .f32⟩
  | 48 => ⟨S_, .f32⟩
  | 49 => ⟨S24x512x2560, .f32⟩
  | 50 => ⟨S24x512x2560, .f32⟩
  | 51 => ⟨S24x512x2560, .f32⟩
  | 52 => ⟨S24x512x2560, .bf16⟩
  | 53 => ⟨S24x512x16, .f32⟩
  | 54 => ⟨S24x512x16, .bf16⟩
  | 55 => ⟨S16x6912, .f32⟩
  | 56 => ⟨S_, .f32⟩
  | 57 => ⟨S16x6912, .f32⟩
  | 58 => ⟨S16x6912, .f32⟩
  | 59 => ⟨S2560x16, .f32⟩
  | 60 => ⟨S_, .f32⟩
  | 61 => ⟨S2560x16, .f32⟩
  | 62 => ⟨S2560x16, .f32⟩
  | 63 => ⟨S12288x2560, .bf16⟩
  | 64 => ⟨S12288x16, .bf16⟩
  | 65 => ⟨S12288x16, .bf16⟩
  | _ => ⟨S24x512x2560, .bf16⟩

abbrev hbmTy (i : Nat) : BufTy := match i / 128 with
  | 0 => hbmTy0_0 i
  | 1 => hbmTy0_1 i
  | _ => ⟨S24x512x2560, .bf16⟩

abbrev bufTy : (tb : Table) → Fin (tcTables nBuf tb) → BufTy
  | .hbm, ⟨i, _⟩ => hbmTy i
  | _, _ => ⟨S24x512x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_cst_8 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_cst_9 : Ref sig .tc := ⟨.hbm, 39, rfl⟩
abbrev main_cst_10 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_v21 : Ref sig .tc := ⟨.hbm, 44, rfl⟩
abbrev main_cst_11 : Ref sig .tc := ⟨.hbm, 45, rfl⟩
abbrev main_cst_12 : Ref sig .tc := ⟨.hbm, 46, rfl⟩
abbrev main_call3_v0 : Ref sig .tc := ⟨.hbm, 47, rfl⟩
abbrev main_call3_v1 : Ref sig .tc := ⟨.hbm, 48, rfl⟩
abbrev main_v22 : Ref sig .tc := ⟨.hbm, 49, rfl⟩
abbrev main_cst_13 : Ref sig .tc := ⟨.hbm, 50, rfl⟩
abbrev main_cst_14 : Ref sig .tc := ⟨.hbm, 51, rfl⟩
abbrev main_call4_v0 : Ref sig .tc := ⟨.hbm, 52, rfl⟩
abbrev main_call4_v1 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_15 : Ref sig .tc := ⟨.hbm, 57, rfl⟩
abbrev main_cst_16 : Ref sig .tc := ⟨.hbm, 58, rfl⟩
abbrev main_call7_v0 : Ref sig .tc := ⟨.hbm, 59, rfl⟩
abbrev main_call7_v1 : Ref sig .tc := ⟨.hbm, 60, rfl⟩
abbrev main_v26 : Ref sig .tc := ⟨.hbm, 61, rfl⟩
abbrev main_cst_17 : Ref sig .tc := ⟨.hbm, 62, rfl⟩
abbrev main_cst_18 : Ref sig .tc := ⟨.hbm, 63, rfl⟩
abbrev main_call8_v0 : Ref sig .tc := ⟨.hbm, 64, rfl⟩
abbrev main_call8_v1 : Ref sig .tc := ⟨.hbm, 65, rfl⟩
abbrev main_v27 : Ref sig .tc := ⟨.hbm, 66, rfl⟩
abbrev main_v28 : Ref sig .tc := ⟨.hbm, 67, rfl⟩
abbrev main_cst_19 : Ref sig .tc := ⟨.hbm, 68, rfl⟩
abbrev main_cst_20 : Ref sig .tc := ⟨.hbm, 69, rfl⟩
abbrev main_call10_v0 : Ref sig .tc := ⟨.hbm, 70, rfl⟩
abbrev main_call10_v1 : Ref sig .tc := ⟨.hbm, 71, rfl⟩
abbrev main_v29 : Ref sig .tc := ⟨.hbm, 72, rfl⟩
abbrev main_cst_21 : Ref sig .tc := ⟨.hbm, 73, rfl⟩
abbrev main_cst_22 : Ref sig .tc := ⟨.hbm, 74, rfl⟩
abbrev main_call11_v0 : Ref sig .tc := ⟨.hbm, 75, rfl⟩
abbrev main_call11_v1 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_c_23 : Ref sig .tc := ⟨.hbm, 87, rfl⟩
abbrev main_v40 : Ref sig .tc := ⟨.hbm, 88, rfl⟩
abbrev main_v41 : Ref sig .tc := ⟨.hbm, 89, rfl⟩
abbrev main_c_24 : Ref sig .tc := ⟨.hbm, 90, rfl⟩
abbrev main_v42 : Ref sig .tc := ⟨.hbm, 91, rfl⟩
abbrev main_v43 : Ref sig .tc := ⟨.hbm, 92, rfl⟩
abbrev main_c_25 : Ref sig .tc := ⟨.hbm, 93, rfl⟩
abbrev main_v44 : Ref sig .tc := ⟨.hbm, 94, rfl⟩
abbrev main_v45 : Ref sig .tc := ⟨.hbm, 95, rfl⟩
abbrev main_c_26 : Ref sig .tc := ⟨.hbm, 96, rfl⟩
abbrev main_v46 : Ref sig .tc := ⟨.hbm, 97, rfl⟩
abbrev main_v47 : Ref sig .tc := ⟨.hbm, 98, rfl⟩
abbrev main_c_27 : Ref sig .tc := ⟨.hbm, 99, rfl⟩
abbrev main_v48 : Ref sig .tc := ⟨.hbm, 100, rfl⟩
abbrev main_v49 : Ref sig .tc := ⟨.hbm, 101, rfl⟩
abbrev main_c_28 : Ref sig .tc := ⟨.hbm, 102, rfl⟩
abbrev main_v50 : Ref sig .tc := ⟨.hbm, 103, rfl⟩
abbrev main_v51 : Ref sig .tc := ⟨.hbm, 104, rfl⟩
abbrev main_c_29 : Ref sig .tc := ⟨.hbm, 105, rfl⟩
abbrev main_v52 : Ref sig .tc := ⟨.hbm, 106, rfl⟩
abbrev main_v53 : Ref sig .tc := ⟨.hbm, 107, rfl⟩
abbrev main_c_30 : Ref sig .tc := ⟨.hbm, 108, rfl⟩
abbrev main_v54 : Ref sig .tc := ⟨.hbm, 109, rfl⟩
abbrev main_v55 : Ref sig .tc := ⟨.hbm, 110, rfl⟩
abbrev main_c_31 : Ref sig .tc := ⟨.hbm, 111, rfl⟩
abbrev main_v56 : Ref sig .tc := ⟨.hbm, 112, rfl⟩
abbrev main_v57 : Ref sig .tc := ⟨.hbm, 113, rfl⟩
abbrev main_cst_32 : Ref sig .tc := ⟨.hbm, 114, rfl⟩
abbrev main_cst_33 : Ref sig .tc := ⟨.hbm, 115, rfl⟩
abbrev main_call15_v0 : Ref sig .tc := ⟨.hbm, 116, rfl⟩
abbrev main_call15_v1 : Ref sig .tc := ⟨.hbm, 117, rfl⟩
abbrev main_v58 : Ref sig .tc := ⟨.hbm, 118, rfl⟩
abbrev main_cst_34 : Ref sig .tc := ⟨.hbm, 119, rfl⟩
abbrev main_cst_35 : Ref sig .tc := ⟨.hbm, 120, rfl⟩
abbrev main_call16_v0 : Ref sig .tc := ⟨.hbm, 121, rfl⟩
abbrev main_call16_v1 : Ref sig .tc := ⟨.hbm, 122, rfl⟩
abbrev main_v59 : Ref sig .tc := ⟨.hbm, 123, rfl⟩
abbrev main_v60 : Ref sig .tc := ⟨.hbm, 124, rfl⟩
abbrev main_cst_36 : Ref sig .tc := ⟨.hbm, 125, rfl⟩
abbrev main_cst_37 : Ref sig .tc := ⟨.hbm, 126, rfl⟩
abbrev main_call18_v0 : Ref sig .tc := ⟨.hbm, 127, rfl⟩
abbrev main_call18_v1 : Ref sig .tc := ⟨.hbm, 128, rfl⟩
abbrev main_v61 : Ref sig .tc := ⟨.hbm, 129, rfl⟩
abbrev main_cst_38 : Ref sig .tc := ⟨.hbm, 130, rfl⟩
abbrev main_cst_39 : Ref sig .tc := ⟨.hbm, 131, rfl⟩
abbrev main_call19_v0 : Ref sig .tc := ⟨.hbm, 132, rfl⟩
abbrev main_call19_v1 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_cst_40 : Ref sig .tc := ⟨.hbm, 137, rfl⟩
abbrev main_cst_41 : Ref sig .tc := ⟨.hbm, 138, rfl⟩
abbrev main_call22_v0 : Ref sig .tc := ⟨.hbm, 139, rfl⟩
abbrev main_call22_v1 : Ref sig .tc := ⟨.hbm, 140, rfl⟩
abbrev main_v65 : Ref sig .tc := ⟨.hbm, 141, rfl⟩
abbrev main_cst_42 : Ref sig .tc := ⟨.hbm, 142, rfl⟩
abbrev main_cst_43 : Ref sig .tc := ⟨.hbm, 143, rfl⟩
abbrev main_call23_v0 : Ref sig .tc := ⟨.hbm, 144, rfl⟩
abbrev main_call23_v1 : Ref sig .tc := ⟨.hbm, 145, rfl⟩
abbrev main_v66 : Ref sig .tc := ⟨.hbm, 146, rfl⟩
abbrev main_v67 : Ref sig .tc := ⟨.hbm, 147, rfl⟩
abbrev main_cst_44 : Ref sig .tc := ⟨.hbm, 148, rfl⟩
abbrev main_cst_45 : Ref sig .tc := ⟨.hbm, 149, rfl⟩
abbrev main_call25_v0 : Ref sig .tc := ⟨.hbm, 150, rfl⟩
abbrev main_call25_v1 : Ref sig .tc := ⟨.hbm, 151, rfl⟩
abbrev main_v68 : Ref sig .tc := ⟨.hbm, 152, rfl⟩
abbrev main_cst_46 : Ref sig .tc := ⟨.hbm, 153, rfl⟩
abbrev main_cst_47 : Ref sig .tc := ⟨.hbm, 154, rfl⟩
abbrev main_call26_v0 : Ref sig .tc := ⟨.hbm, 155, rfl⟩
abbrev main_call26_v1 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_cst_48 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_cst_49 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_50 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩

abbrev nD : Nat := 1
abbrev τ : Topo := Topo.v7x

variable {F : FTy → Type} [FloatOps F]
-- ==== Proof.Decode.lean ====
module

public import proofs.«01_k».proof.Proof.Gen.KernelIdeal.Skeleton
public import Idealize.ShloMosaic.Lib.BitcastPair
public import Idealize.ShloMosaic.Lib.ValueIdxCore

@[expose] public section

set_option maxRecDepth 16384

noncomputable section

/-! The decoded tile of sixteen weight rows by 128 columns, as one function of the table rows, the
    absmax tile and the packed tile, and its reading at an element. -/

namespace Cert.KernelIdeal.Hand

open Cert.KernelIdeal Cert.KernelIdeal.Gen
open Idealize.ShloMosaic Idealize.ShloMosaic.ValueIdx

variable {F : FTy → Type} [FloatOps F]

/-- The 32-bit word of a packed byte: the low seven bits pick the entry, the top bit the half. -/
def tword (T0 T1 : Fin 128 → BitVec 32) (b : BitVec 8) : BitVec 32 :=
  Scalar.select (IntOp.cmpi .sge (b.setWidth 32) 128#32)
    (T1 ⟨(IntOp.andi (b.setWidth 32) 127#32).toNat % 128, Nat.mod_lt _ (by decide)⟩)
    (T0 ⟨(IntOp.andi (b.setWidth 32) 127#32).toNat % 128, Nat.mod_lt _ (by decide)⟩)

/-- One decoded weight: half `p` of the packed byte's word, read as a bf16, times the absmax. -/
def wElt (T0 T1 : Fin 128 → BitVec 32) (am : F .f32) (b : BitVec 8) (p : Nat) : F .bf16 :=
  FloatOps.mulf (FloatOps.ofBits .bf16 ((tword T0 T1 b).extractLsb' (16 * p) 16))
    (FloatOps.truncf .bf16 bitsLt_bf16_f32 am)

theorem slices_codes (s : Fin 4) : S32x128.Slices ![8 * s.val, 0] S8x128 := by revert s; decide +kernel
theorem slices_am (b : Fin 8) : S8x128.Slices ![b.val, 0] S1x128 := by revert b; decide +kernel

/-- Rows `8 s …` of the packed tile, decoded, times row `b` of the absmax tile. -/
def tile (v68 v71 : Vec F S1x128 .i32) (v81 : Vec F S8x128 .f32) (v89 : Vec F S32x128 .i8) (b : Fin 8) (s : Fin 4) : FVec F S16x128 .bf16 :=
  have v91 : IVec S8x128 32 := extractStridedSlice S8x128 ![8 * s.val, 0] (extui 32 v89 natLt_8_32) (slices_codes s)
  have v93 : IVec S8x128 32 := andi v91 (broadcast S8x128 127#32)
  have v95 : IVec S8x128 1 := cmpi .sge v91 (broadcast S8x128 128#32)
  have v97 : IVec S8x128 32 := shapeCast S8x128 (shapeCast S8x128x1 v93 shapeCasts_S8x128_S8x128x1) shapeCasts_S8x128x1_S8x128
  have v102 : IVec S8x128 32 := select v95 (dynamicGather 1 (k0_pay84 v71) v97) (dynamicGather 1 (k0_pay83 v68) v97)
  have v103 : FVec F S16x128 .bf16 := bitcastToFloat .bf16 (bitcast S16x128 16 v102 bitcasts_S8x128_w32_S16x128_w16)
  have v85 : FVec F S16x128 .bf16 := broadcastTo S16x128 (shapeCast S1x128 (extractStridedSlice S1x128 ![b.val, 0]
    (truncf .bf16 v81 bitsLt_bf16_f32) (slices_am b)) shapeCasts_S1x128_S1x128) broadcasts_S1x128_S16x128
  shapeCast S16x128 (mulf v103 v85) shapeCasts_S16x128_S16x128

theorem shapeCast_self {S : Shape} {α : Type} (x : S.Idx → α) (h : S.ShapeCasts S) : shapeCast S x h = x := by
  funext j; show x (Shape.reshapeEquiv h j) = x j; rw [Shape.reshapeEquiv_self]

theorem shapeCast_shapeCast_self {S S' : Shape} {α : Type} (x : S.Idx → α) (h : S.ShapeCasts S') (h' : S'.ShapeCasts S) :
    shapeCast S (shapeCast S' x h) h' = x := by
  funext j; show x (Shape.reshapeEquiv h (Shape.reshapeEquiv h' j)) = x j
  rw [Shape.reshapeEquiv_reshapeEquiv, Shape.reshapeEquiv_self]

theorem gather84 (v71 : Vec F S1x128 .i32) (idx : IVec S8x128 32) (j : S8x128.Idx) :
    dynamicGather 1 (k0_pay84 v71) idx j = v71 (ix2 0 ⟨(idx j).toNat % 128, Nat.mod_lt _ (by decide)⟩) := by
  unfold k0_pay84
  show dynamicGather 1 (broadcastTo S8x128 (shapeCast S1x128 v71 shapeCasts_S1x128_S1x128) broadcasts_S1x128_S8x128) idx j = _
  rw [shapeCast_self]
  refine congrArg v71 ?_
  funext a; apply Fin.ext; fin_cases a <;> rfl

theorem gather83 (v68 : Vec F S1x128 .i32) (idx : IVec S8x128 32) (j : S8x128.Idx) :
    dynamicGather 1 (k0_pay83 v68) idx j = v68 (ix2 0 ⟨(idx j).toNat % 128, Nat.mod_lt _ (by decide)⟩) := gather84 v68 idx j

/-- The tile at an element is the decoded weight of its packed byte. -/
theorem tile_apply (v68 v71 : Vec F S1x128 .i32) (v81 : Vec F S8x128 .f32) (v89 : Vec F S32x128 .i8) (b : Fin 8) (s : Fin 4)
    (r : Fin 16) (l : Fin 128) :
    tile v68 v71 v81 v89 b s (ix2 r l) = wElt (fun n => v68 (ix2 0 n)) (fun n => v71 (ix2 0 n)) (v81 (ix2 b l))
      (v89 (ix2 ⟨8 * s.val + r.val / 2, by omega⟩ l)) (r.val % 2) := by
  unfold tile
  rw [shapeCast_self, shapeCast_shapeCast_self, shapeCast_self]
  show FloatOps.mulf _ _ = FloatOps.mulf _ _
  refine congr (congrArg _ ?_) ?_
  · show FloatOps.ofBits .bf16 (bitcast S16x128 16 _ _ _) = FloatOps.ofBits .bf16 _
    refine congrArg _ ?_
    rw [bitcast_32_16]
    have hrow : S16x128.row (ix2 r l) = r.val := rfl
    have hsrc : ∀ hp, bitcasts_S8x128_w32_S16x128_w16.srcIdx (ix2 r l) (S16x128.row (ix2 r l) / 2) hp = ix2 ⟨r.val / 2, by omega⟩ l := by
      intro hp; funext a; apply Fin.ext; fin_cases a
      · exact Shape.Bitcasts.srcIdx_row _ _ _ hp 0 rfl
      · exact Shape.Bitcasts.srcIdx_other _ _ _ hp 1 (by decide)
    rw [hsrc, hrow]
    refine congrArg (fun w : BitVec 32 => w.extractLsb' (16 * (r.val % 2)) 16) ?_
    have hc : extractStridedSlice S8x128 ![8 * s.val, 0] (extui 32 v89 natLt_8_32) (slices_codes s) (ix2 ⟨r.val / 2, by omega⟩ l)
        = (v89 (ix2 ⟨8 * s.val + r.val / 2, by omega⟩ l)).setWidth 32 := by
      refine congrArg (fun y => (v89 y).setWidth 32) ?_
      funext a; apply Fin.ext; fin_cases a
      · rfl
      · exact Nat.zero_add _
    show Scalar.select (IntOp.cmpi .sge (extractStridedSlice S8x128 ![8 * s.val, 0] (extui 32 v89 natLt_8_32) (slices_codes s) (ix2 ⟨r.val / 2, by omega⟩ l)) 128#32)
      (dynamicGather 1 (k0_pay84 v71) _ _) (dynamicGather 1 (k0_pay83 v68) _ _) = _
    rw [gather84, gather83]
    show Scalar.select (IntOp.cmpi .sge _ 128#32)
      (v71 (ix2 0 ⟨(IntOp.andi (extractStridedSlice S8x128 ![8 * s.val, 0] (extui 32 v89 natLt_8_32) (slices_codes s) (ix2 ⟨r.val / 2, by omega⟩ l)) 127#32).toNat % 128, _⟩))
      (v68 (ix2 0 ⟨(IntOp.andi (extractStridedSlice S8x128 ![8 * s.val, 0] (extui 32 v89 natLt_8_32) (slices_codes s) (ix2 ⟨r.val / 2, by omega⟩ l)) 127#32).toNat % 128, _⟩)) = _
    simp only [hc]
    rfl
  · refine congrArg (fun y => FloatOps.truncf .bf16 bitsLt_bf16_f32 (v81 y)) ?_
    funext a; apply Fin.ext; fin_cases a
    · rfl
    · exact Nat.zero_add _

end Cert.KernelIdeal.Hand
-- ==== Proof.Names.lean ====
module

public import proofs.«01_k».proof.Proof.Decode
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S1280x6912 .i8 := Memref.whole main_arg1
abbrev wM : Memref sig .tc .vmem S2560x6912 .bf16 := Memref.whole cc0_scratch0
abbrev stM : Memref sig .tc .vmem S2x256x6912 .i8 := Memref.whole cc0_scratch1

abbrev chOff (b : Fin 5) : Fin 2 → Nat := ![256 * b.val, 0]
theorem chOff_inb (b : Fin 5) : ∀ a, chOff b a + S256x6912.size a ≤ S1280x6912.size a := by
  have := b.isLt; intro a; fin_cases a
  · show 256 * b.val + 256 ≤ 1280; omega
  · show 0 + 6912 ≤ 6912; omega
abbrev slotOff (s : Fin 2) : Fin 3 → Nat := ![s.val, 0, 0]
theorem slotOff_inb (s : Fin 2) : ∀ a, slotOff s a + S1x256x6912.size a ≤ S2x256x6912.size a := by
  have := s.isLt; intro a; fin_cases a
  · show s.val + 1 ≤ 2; omega
  · show 0 + 256 ≤ 256; omega
  · show 0 + 6912 ≤ 6912; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Chunk `b` of the packed codes: 256 rows. -/
def chunk (b : Fin 5) : Memref sig .tc .hbm S256x6912 .i8 :=
  hbM.slice (Rect.unit (s := S1280x6912) (chOff b) S256x6912.size (chOff_inb b)) (fun _ => rfl)
/-- Slot `s` of the two landing slots. -/
def slot (s : Fin 2) : Memref sig .tc .vmem S256x6912 .i8 :=
  (stM.slice (Rect.unit (s := S2x256x6912) (slotOff s) S1x256x6912.size (slotOff_inb s)) (fun _ => rfl)).squeeze S256x6912 squeezes_S1x256x6912_S256x6912
/-- Slot `s`'s completion cell. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 5) : ClosedOff (chOff b) := ⟨chOff b, rfl⟩

theorem slot_congr {off : Fin 3 → Nat} {s : Fin 2} (e : off = slotOff s) (hh hs) :
    (stM.slice (Rect.unit (s := S2x256x6912) off S1x256x6912.size hh) hs).squeeze S256x6912 squeezes_S1x256x6912_S256x6912 = slot s :=
  congrArg (fun M : Memref sig .tc .vmem S1x256x6912 .i8 => M.squeeze S256x6912 squeezes_S1x256x6912_S256x6912) (Memref.slice_unit_congr _ e _ _ _ _)
theorem chunk_congr {off : Fin 2 → Nat} {b : Fin 5} (e : off = chOff b) (hh hs) :
    hbM.slice (Rect.unit (s := S1280x6912) off S256x6912.size hh) hs = chunk b := Memref.slice_unit_congr _ e _ _ _ (fun _ => rfl)
theorem csm_congr {off : Fin 1 → Nat} {s : Fin 2} (e : off = semOff s) (hh) :
    (cc0_scratch2.slice (Rect.unit (s := S2) off S1.size hh)).squeeze S_ squeezes_S1_S_ = csm s :=
  congrArg (fun M : DmaSems sig S1 => M.squeeze S_ squeezes_S1_S_) (SemArray.slice_unit_congr _ e _ _)

/-! The offsets the loop computes, in closed form. -/
theorem off8_eq : ∀ k : Fin k0_t1_loop.trips, k0_off8 k = slotOff (Ring.sl 2 k.val) := by decide +kernel
theorem off5_eq : ∀ k : Fin k0_t1_loop.trips, k0_off5 k = slotOff (Ring.sl 2 k.val) := by decide +kernel
theorem off4_eq : ∀ k : Fin k0_t1_loop.trips, k0_off4 k = semOff (Ring.sl 2 k.val) := by decide +kernel
theorem off2_eq : ∀ k : Fin k0_t1_loop.trips, k0_off2 k = slotOff (Ring.sl 2 (k.val + 1)) := by decide +kernel
theorem off1_eq : ∀ k : Fin k0_t1_loop.trips, k0_off1 k = semOff (Ring.sl 2 (k.val + 1)) := by decide +kernel
theorem off6_eq : ∀ k : Fin k0_t1_loop.trips, k0_off6 k = ![256 * k.val, 0] := by decide +kernel
theorem off3_eq : ∀ k : Fin k0_t1_loop.trips, k.val + 1 < 5 → k0_off3 k = ![256 * (k.val + 1), 0] := by decide +kernel
theorem off7_eq : ∀ (k : Fin k0_t1_loop.trips) (k2 : Fin k0_t2_loop.trips), k0_off7 k k2 = ![8 * k.val, 128 * k2.val] := by decide +kernel
theorem off10_eq : ∀ (k : Fin k0_t1_loop.trips) (k2 : Fin k0_t2_loop.trips) (b : Fin 8) (s : Fin 4),
    k0_off10 k k2 (BitVec.ofNat 32 (32 * b.val)) (BitVec.ofNat 32 (8 * s.val)) = ![512 * k.val + 64 * b.val + 16 * s.val, 128 * k2.val] := by
  decide +kernel

/-- The packed-tile offset of block `b`. -/
def cOff (k2 : Fin k0_t2_loop.trips) : Fin 8 → Fin 2 → Nat
  | 0 => k0_off9 k2 | 1 => k0_off11 k2 | 2 => k0_off12 k2 | 3 => k0_off13 k2
  | 4 => k0_off14 k2 | 5 => k0_off15 k2 | 6 => k0_off16 k2 | 7 => k0_off17 k2
theorem cOff_eq : ∀ (k2 : Fin k0_t2_loop.trips) (b : Fin 8), cOff k2 b = ![32 * b.val, 128 * k2.val] := by decide +kernel

@[sl_canon] theorem slot8 (k : Fin k0_t1_loop.trips) (hh hs) :
    (stM.slice (Rect.unit (s := S2x256x6912) (k0_off8 k) S1x256x6912.size hh) hs).squeeze S256x6912 squeezes_S1x256x6912_S256x6912 = slot (Ring.sl 2 k.val) := slot_congr (off8_eq k) _ _

end Cert.KernelIdeal.Hand
-- ==== Proof.Trip.lean ====
module

public import proofs.«01_k».proof.Proof.Names
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One trip of the inner loop: thirty-two stores of one tile each -/

section Pieces
variable (i : grid0.Coords) (k0_h1 : k0_cond1 i = 1#1) (k1 : Fin k0_t1_loop.trips) (k2 : Fin k0_t2_loop.trips)
variable (v68 v71 : Vec F S1x128 .i32) (A : S40x6912.Idx → F .f32) (C : S256x6912.Idx → BitVec 8)

theorem k1_lt : k1.val < 5 := lt_of_lt_of_le k1.isLt (by decide)
theorem k2_lt : k2.val < 54 := lt_of_lt_of_le k2.isLt (by decide)

/-- The decoded weights of a chunk, as a function of the scratch's element. -/
def gW (y : S2560x6912.Idx) : F .bf16 :=
  wElt (fun n => v68 (ix2 0 n)) (fun n => v71 (ix2 0 n))
    (A (ix2 ⟨(y 0).val / 64, by have : (y 0).val < 2560 := (y 0).isLt; omega⟩ (y 1)))
    (C (ix2 ⟨(y 0).val % 512 / 2, by omega⟩ (y 1))) ((y 0).val % 2)

/-- One store of the trip: its rectangle and its payload. -/
def pc (q : Fin 8 × Fin 4) : View.Piece (Elt F) S2560x6912 .bf16 :=
  ⟨Rect.unit (s := S2560x6912) (k0_off10 k1 k2 (BitVec.ofNat 32 (32 * q.1.val)) (BitVec.ofNat 32 (8 * q.2.val))) S16x128.size
      (k0_off10_inb i k1 k2 k0_h1 q.1 q.2),
    tile v68 v71 (fun x => A ((Rect.unit (s := S40x6912) (k0_off7 k1 k2) S8x128.size (k0_off7_inb i k1 k2 k0_h1)).emb x))
      (fun x => C ((Rect.unit (s := S256x6912) (cOff k2 q.1) S32x128.size (by
        rw [cOff_eq]; intro a; have := q.1.isLt; have := k2_lt k2; fin_cases a
        · show 32 * q.1.val + 32 ≤ 256; omega
        · show 128 * k2.val + 128 ≤ 6912; omega)).emb x)) q.1 q.2⟩

/-- The thirty-two stores, last first. -/
def order : List (Fin 8 × Fin 4) :=
  [(7,3),(7,2),(7,1),(7,0),(6,3),(6,2),(6,1),(6,0),(5,3),(5,2),(5,1),(5,0),(4,3),(4,2),(4,1),(4,0),
   (3,3),(3,2),(3,1),(3,0),(2,3),(2,2),(2,1),(2,0),(1,3),(1,2),(1,1),(1,0),(0,3),(0,2),(0,1),(0,0)]
theorem mem_order : ∀ (b : Fin 8) (s : Fin 4), (b, s) ∈ order := by decide

/-- Each store's payload is its tile of the chunk's decoded weights. -/
theorem pc_apply (q : Fin 8 × Fin 4) (x : (pc i k0_h1 k1 k2 v68 v71 A C q).1.shape.Idx) :
    (pc i k0_h1 k1 k2 v68 v71 A C q).2 x = gW v68 v71 A C ((pc i k0_h1 k1 k2 v68 v71 A C q).1.emb x) := by
  obtain ⟨b, s⟩ := q
  have hx : x = (ix2 (n0 := 16) (n1 := 128) (x 0) (x 1) : S16x128.Idx) := eq_ix2 (n0 := 16) (n1 := 128) x
  have h0 : (x 0).val < 16 := (x 0).isLt
  have h1 : (x 1).val < 128 := (x 1).isLt
  have hk := k1_lt k1
  have hk2 := k2_lt k2
  have hb := b.isLt
  have hs := s.isLt
  have e0 : ((pc i k0_h1 k1 k2 v68 v71 A C (b, s)).1.emb x 0 : Nat) = 512 * k1.val + 64 * b.val + 16 * s.val + (x 0).val := by
    rw [Rect.emb_apply]
    show k0_off10 k1 k2 (BitVec.ofNat 32 (32 * b.val)) (BitVec.ofNat 32 (8 * s.val)) 0 + 1 * (x 0).val = _
    rw [off10_eq, Nat.one_mul]; rfl
  have e1 : ((pc i k0_h1 k1 k2 v68 v71 A C (b, s)).1.emb x 1 : Nat) = 128 * k2.val + (x 1).val := by
    rw [Rect.emb_apply]
    show k0_off10 k1 k2 (BitVec.ofNat 32 (32 * b.val)) (BitVec.ofNat 32 (8 * s.val)) 1 + 1 * (x 1).val = _
    rw [off10_eq, Nat.one_mul]; rfl
  refine (congrArg (tile _ _ _ _ _ _) hx).trans ?_
  refine (tile_apply _ _ _ _ _ _ _ _).trans ?_
  unfold gW
  have ep : ((pc i k0_h1 k1 k2 v68 v71 A C (b, s)).1.emb x 0 : Nat) % 2 = (x 0).val % 2 := by rw [e0]; omega
  rw [ep]
  refine congrFun (congr (congrArg (wElt _ _) (congrArg A ?_)) (congrArg C ?_)) _
  · funext a; apply Fin.ext; fin_cases a
    · refine (Rect.emb_apply _ _ _).trans ?_
      show k0_off7 k1 k2 0 + 1 * b.val = ((pc i k0_h1 k1 k2 v68 v71 A C (b, s)).1.emb x 0 : Nat) / 64
      rw [off7_eq, e0]; show 8 * k1.val + 1 * b.val = _; omega
    · refine (Rect.emb_apply _ _ _).trans ?_
      show k0_off7 k1 k2 1 + 1 * (x 1).val = ((pc i k0_h1 k1 k2 v68 v71 A C (b, s)).1.emb x 1 : Nat)
      rw [off7_eq, e1]; show 128 * k2.val + 1 * (x 1).val = _; omega
  · funext a; apply Fin.ext; fin_cases a
    · refine (Rect.emb_apply _ _ _).trans ?_
      show cOff k2 b 0 + 1 * (8 * s.val + (x 0).val / 2) = ((pc i k0_h1 k1 k2 v68 v71 A C (b, s)).1.emb x 0 : Nat) % 512 / 2
      rw [cOff_eq, e0]; show 32 * b.val + 1 * (8 * s.val + (x 0).val / 2) = _; omega
    · refine (Rect.emb_apply _ _ _).trans ?_
      show cOff k2 b 1 + 1 * (x 1).val = ((pc i k0_h1 k1 k2 v68 v71 A C (b, s)).1.emb x 1 : Nat)
      rw [cOff_eq, e1]; show 128 * k2.val + 1 * (x 1).val = _; omega

/-- The scratch after the trip: the chunk's rows of the trip's 128 columns decoded, the rest as before. -/
def updW (f : S2560x6912.Idx → F .bf16) : S2560x6912.Idx → F .bf16 := fun y =>
  if (y 0).val / 512 = k1.val ∧ (y 1).val / 128 = k2.val then gW v68 v71 A C y else f y

theorem mem_pc (q : Fin 8 × Fin 4) (y : S2560x6912.Idx) :
    y ∈ (pc i k0_h1 k1 k2 v68 v71 A C q).1.set ↔
      (512 * k1.val + 64 * q.1.val + 16 * q.2.val ≤ (y 0).val ∧ (y 0).val < 512 * k1.val + 64 * q.1.val + 16 * q.2.val + 16) ∧
      (128 * k2.val ≤ (y 1).val ∧ (y 1).val < 128 * k2.val + 128) := by
  unfold pc
  rw [Rect.mem_set_unit, off10_eq]
  constructor
  · intro h; exact ⟨h 0, h 1⟩
  · rintro ⟨h0, h1⟩ a; fin_cases a
    · exact h0
    · exact h1

theorem writes_order (f : S2560x6912.Idx → F .bf16) :
    wM.view.writes (Elt F) f (order.map (pc i k0_h1 k1 k2 v68 v71 A C)) = updW k1 k2 v68 v71 A C f := by
  funext y
  show wM.view.read (Elt F) (wM.view.writes (Elt F) f (order.map (pc i k0_h1 k1 k2 v68 v71 A C))) y = _
  have hk := k1_lt k1
  have hk2 := k2_lt k2
  unfold updW
  split_ifs with h
  · refine View.read_writes_apply_of_pieces (Val := Elt F) (v := wM.view) (e := .bf16) (s := S2560x6912) f (gW v68 v71 A C) _ ?_ y ?_
    · intro p hp; obtain ⟨q, -, rfl⟩ := List.mem_map.1 hp; exact pc_apply i k0_h1 k1 k2 v68 v71 A C q
    · refine ⟨_, List.mem_map.2 ⟨(⟨(y 0).val % 512 / 64, by omega⟩, ⟨(y 0).val % 64 / 16, by omega⟩), mem_order _ _, rfl⟩, ?_⟩
      rw [mem_pc]; dsimp only; omega
  · refine (View.read_writes_apply_of_forall_not_mem _ _ y _ ?_).trans rfl
    intro p hp; obtain ⟨q, -, rfl⟩ := List.mem_map.1 hp
    rw [mem_pc]; have := q.1.isLt; have := q.2.isLt; omega

end Pieces

section Trip
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)

/-- A trip of the inner loop on this program's buffers. -/
abbrev body2 (k0_t1 : Fin k0_t1_loop.trips) (arg16 : BitVec 32) (v68 v71 : Vec F S1x128 .i32) (k : Fin k0_t2_loop.trips) : Prog (TpuEff nD τ sig (Elt F) Λ₀ .tc) Unit :=
  k0_t2_body (F := F) i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 k0_t1 arg16 v68 v71 k ()

/-- A trip of the inner loop leaves the read buffers as they were and its columns of the chunk decoded. -/
theorem trip2 (k0_t1 : Fin k0_t1_loop.trips) (arg16 : BitVec 32) (v68 v71 : Vec F S1x128 .i32) (k : Fin k0_t2_loop.trips)
    (X2 : BufTy.Contents (Elt F) arg2.view.ty) (XS : BufTy.Contents (Elt F) (slot (Ring.sl 2 k0_t1.val)).view.ty)
    (f : Buf (Elt F) (wM.view.loc (c : Thread nD τ))) :
    iprop((arg2.view.loc (c : Thread nD τ) ↦[arg2.view.set]{fullShare} X2)
      ∗ ((slot (Ring.sl 2 k0_t1.val)).view.loc (c : Thread nD τ) ↦[(slot (Ring.sl 2 k0_t1.val)).view.set]{fullShare} XS)
      ∗ (wM.view.loc (c : Thread nD τ) ↦[wM.view.set]{fullShare} f))
    ⊢ (wp frame (wpE (defs₀ (F := F)) Variants.none (c : Thread nD τ) none) Set.univ
        (body2 i arg1 harg1 arg2 harg2 arg3 harg3 arg4 harg4 arg5 harg5 arg6 harg6 arg8 harg8 arg9 harg9 arg10 harg10 arg11 harg11 arg12 harg12 k0_h1 k0_t1 arg16 v68 v71 k)
        (fun _ => iprop((arg2.view.loc (c : Thread nD τ) ↦[arg2.view.set]{fullShare} X2)
      ∗ ((slot (Ring.sl 2 k0_t1.val)).view.loc (c : Thread nD τ) ↦[(slot (Ring.sl 2 k0_t1.val)).view.set]{fullShare} XS)
      ∗ (wM.view.loc (c : Thread nD τ) ↦[wM.view.set]{fullShare}
          updW k0_t1 k v68 v71 (arg2.view.read (Elt F) X2) ((slot (Ring.sl 2 k0_t1.val)).view.read (Elt F) XS) f))) : sProp 𝕄) := by
  unfold body2 k0_t2_body
  iintro ⟨HR, HS, HW⟩
  sl_exec
  sl_step
  isplitl [HR]; · iexact HR
  isplitl [HS]; · iexact HS
  irw [← writes_order i k0_h1 k0_t1 k v68 v71 (arg2.view.read (Elt F) X2) ((slot (Ring.sl 2 k0_t1.val)).view.read (Elt F) XS) f]
  iexact HW

end Trip
end Cert.KernelIdeal.Hand
-- ==== Proof.Inner.lean ====
module

public import proofs.«01_k».proof.Proof.Trip
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The inner loop: fifty-four column stripes of one chunk -/

section Acc
variable (k1 : ℕ) (G f : S2560x6912.Idx → F .bf16)

/-- The scratch before stripe `n` of chunk `k1`: the stripes before it decoded, the rest as at the loop's entry. -/
def accI : ℕ → (S2560x6912.Idx → F .bf16)
  | 0 => f
  | n + 1 => fun y => if (y 0).val / 512 = k1 ∧ (y 1).val / 128 = n then G y else accI n y

theorem accI_eq (n : ℕ) (y : S2560x6912.Idx) :
    accI k1 G f n y = if (y 0).val / 512 = k1 ∧ (y 1).val / 128 < n then G y else f y := by
  induction n with
  | zero => rw [if_neg (by omega)]; rfl
  | succ n ih =>
    show (if (y 0).val / 512 = k1 ∧ (y 1).val / 128 = n then G y else accI k1 G f n y) = _
    rw [ih]; split_ifs <;> first | rfl | omega

/-- After the last stripe the chunk's rows are decoded. -/
theorem accI_last : accI k1 G f 54 = fun y => if (y 0).val / 512 = k1 then G y else f y := by
  funext y; rw [accI_eq]
  have h1 : (y 1).val < 6912 := (y 1).isLt
  split_ifs <;> first | rfl | omega

end Acc

section Inner
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)

set_option warn.classDefReducibility false in
/-- The inner loop's invariant: the read buffers unchanged, the stripes before the trip decoded. -/
@[sl_loop] def innerInv (k0_t1 : Fin k0_t1_loop.trips) (arg16 : BitVec 32) (v68 v71 : Vec F S1x128 .i32)
    (X2 : BufTy.Contents (Elt F) arg2.view.ty) (XS : BufTy.Contents (Elt F) (slot (Ring.sl 2 k0_t1.val)).view.ty)
    (f : Buf (Elt F) (wM.view.loc (c : Thread nD τ))) :
    LoopInvTy_k0_t2 (F := F) Unit ℕ (Pipeline.UD sig nD τ) ℕ Variants.none c none Set.univ i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 k0_t1 arg16 v68 v71 where
  inv k _ := iprop((arg2.view.loc (c : Thread nD τ) ↦[arg2.view.set]{fullShare} X2)
      ∗ ((slot (Ring.sl 2 k0_t1.val)).view.loc (c : Thread nD τ) ↦[(slot (Ring.sl 2 k0_t1.val)).view.set]{fullShare} XS)
      ∗ (wM.view.loc (c : Thread nD τ) ↦[wM.view.set]{fullShare}
          accI k0_t1.val (gW v68 v71 (arg2.view.read (Elt F) X2) ((slot (Ring.sl 2 k0_t1.val)).view.read (Elt F) XS)) f k))
  step k _ := trip2 c i arg1 harg1 arg2 harg2 arg3 harg3 arg4 harg4 arg5 harg5 arg6 harg6 arg8 harg8 arg9 harg9 arg10 harg10 arg11 harg11 arg12 harg12 k0_h1 k0_t1 arg16 v68 v71 k X2 XS _

end Inner
end Cert.KernelIdeal.Hand
-- ==== Proof.Outer.lean ====
module

public import proofs.«01_k».proof.Proof.Inner
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The outer loop: five chunks of packed codes through two landing slots -/

section Pieces
variable (c : Dev nD) (XA : Buf (Elt F) (hbM.view.loc (c : Thread nD τ)))

abbrev cellP (s : Fin 2) : sProp 𝕄 := semVal ((c : Thread nD τ), SemLoc.dma (csm s).sem) 0
abbrev slotP (s : Fin 2) (f : Buf (Elt F) ((slot s).view.loc (c : Thread nD τ))) : sProp 𝕄 :=
  (slot s).view.loc (c : Thread nD τ) ↦[(slot s).view.set]{fullShare} f
/-- Chunk `b` held at the packed codes' contents. -/
abbrev homeP (b : Fin 5) : sProp 𝕄 := (chunk b).view.loc (c : Thread nD τ) ↦[(chunk b).view.set]{fullShare} XA
/-- What chunk `b`'s copy leaves in slot `s`. -/
abbrev landed (s : Fin 2) (b : Fin 5) (f : Buf (Elt F) ((slot s).view.loc (c : Thread nD τ))) : Buf (Elt F) ((slot s).view.loc (c : Thread nD τ)) :=
  (slot s).view.writes (Elt F) f [⟨Rect.whole S256x6912, ReadAs.same.apply ((chunk b).view.read (Elt F) XA)⟩]
/-- Slot `s` in flight with chunk `b`. -/
abbrev flightP (s : Fin 2) (b : Fin 5) (f : Buf (Elt F) ((slot s).view.loc (c : Thread nD τ))) : sProp 𝕄 :=
  Transfers.Flight countersEmb (c : Thread nD τ) (SemLoc.dma (csm s).sem) () 55296 iprop(slotP c s (landed c XA s b f) ∗ homeP c XA b)

theorem homes_here (k : ℕ) (hk : k + 1 < 5) :
    bigSep (Ring.homeSet 1 k) (homeP c XA) = iprop(homeP c XA (Ring.bk 5 (k + 1)) ∗ bigSep ((Ring.homeSet 1 k).erase (Ring.bk 5 (k + 1))) (homeP c XA)) := by
  conv_lhs => rw [Ring.homeSet_out 1 k hk, bigSep_insert (Ring.bkL_not_mem_erase 1 k)]
  rfl
theorem homes_next (k : ℕ) (hk : k + 1 < 5) :
    bigSep (Ring.homeSet 1 (k + 1)) (homeP c XA) = iprop(homeP c XA (Ring.bk 5 k) ∗ bigSep ((Ring.homeSet 1 k).erase (Ring.bk 5 (k + 1))) (homeP c XA)) := by
  conv_lhs => rw [Ring.homeSet_succ 1 k hk, bigSep_insert (Ring.bk_not_mem_erase 1 k (by omega) (by decide))]
  rfl
theorem homes_tail :
    bigSep (Ring.homeSet 1 (4 + 1)) (homeP c XA) = iprop(homeP c XA (Ring.bk 5 4) ∗ bigSep (Ring.homeSet 1 4) (homeP c XA)) := by
  conv_lhs => rw [Ring.homeSet_succ_tail 1 4 (by decide) (by decide), bigSep_insert (Ring.bk_not_mem_homeSet 1 4 (by decide) (by decide))]
  rfl
omit [FloatOps F] in
theorem sl2_add2 (k : ℕ) : Ring.sl 2 (k + 1 + 1) = Ring.sl 2 k := by rw [show k + 1 + 1 = k + 2 from rfl, Ring.sl_add]

end Pieces

theorem bk_eq {k : ℕ} (h : k < 5) : chOff (Ring.bk 5 k) = ![256 * k, 0] := by
  show (![256 * (Ring.bk 5 k).val, 0] : Fin 2 → Nat) = _
  rw [Ring.bk_val h]

@[sl_canon] theorem slot5 (k : Fin k0_t1_loop.trips) (hh hs) :
    (stM.slice (Rect.unit (s := S2x256x6912) (k0_off5 k) S1x256x6912.size hh) hs).squeeze S256x6912 squeezes_S1x256x6912_S256x6912 = slot (Ring.sl 2 k.val) := slot_congr (off5_eq k) _ _
@[sl_canon] theorem slot2 (k : Fin k0_t1_loop.trips) (hh hs) :
    (stM.slice (Rect.unit (s := S2x256x6912) (k0_off2 k) S1x256x6912.size hh) hs).squeeze S256x6912 squeezes_S1x256x6912_S256x6912 = slot (Ring.sl 2 (k.val + 1)) := slot_congr (off2_eq k) _ _
@[sl_canon] theorem sem4 (k : Fin k0_t1_loop.trips) (hh) :
    (cc0_scratch2.slice (Rect.unit (s := S2) (k0_off4 k) S1.size hh)).squeeze S_ squeezes_S1_S_ = csm (Ring.sl 2 k.val) := csm_congr (off4_eq k) _
@[sl_canon] theorem sem1 (k : Fin k0_t1_loop.trips) (hh) :
    (cc0_scratch2.slice (Rect.unit (s := S2) (k0_off1 k) S1.size hh)).squeeze S_ squeezes_S1_S_ = csm (Ring.sl 2 (k.val + 1)) := csm_congr (off1_eq k) _
@[sl_canon] theorem chunk6 (k : Fin k0_t1_loop.trips) (hh hs) :
    hbM.slice (Rect.unit (s := S1280x6912) (k0_off6 k) S256x6912.size hh) hs = chunk (Ring.bk 5 k.val) :=
  chunk_congr ((off6_eq k).trans (bk_eq (k1_lt k)).symm) _ _
@[sl_canon] theorem chunk3 (k : Fin k0_t1_loop.trips) (hk : k.val + 1 < 5) (hh hs) :
    hbM.slice (Rect.unit (s := S1280x6912) (k0_off3 k) S256x6912.size hh) hs = chunk (Ring.bk 5 (k.val + 1)) :=
  chunk_congr ((off3_eq k hk).trans (bk_eq hk).symm) _ _

section Full
variable (T0 T1 : Fin 128 → BitVec 32) (A : S40x6912.Idx → F .f32) (P : S1280x6912.Idx → BitVec 8)

/-- The whole decoded weight matrix. -/
def wFull (y : S2560x6912.Idx) : F .bf16 :=
  wElt T0 T1 (A (ix2 ⟨(y 0).val / 64, by have : (y 0).val < 2560 := (y 0).isLt; omega⟩ (y 1)))
    (P (ix2 ⟨(y 0).val / 2, by have : (y 0).val < 2560 := (y 0).isLt; omega⟩ (y 1))) ((y 0).val % 2)

/-- The scratch before chunk `n`: the chunks before it decoded. -/
def accO (f : S2560x6912.Idx → F .bf16) : ℕ → (S2560x6912.Idx → F .bf16)
  | 0 => f
  | n + 1 => fun y => if (y 0).val / 512 = n then wFull T0 T1 A P y else accO f n y

theorem accO_eq (f : S2560x6912.Idx → F .bf16) (n : ℕ) (y : S2560x6912.Idx) :
    accO T0 T1 A P f n y = if (y 0).val / 512 < n then wFull T0 T1 A P y else f y := by
  induction n with
  | zero => rw [if_neg (by omega)]; rfl
  | succ n ih =>
    show (if (y 0).val / 512 = n then wFull T0 T1 A P y else accO T0 T1 A P f n y) = _
    rw [ih]; split_ifs <;> first | rfl | omega

/-- After the last chunk the scratch is the decoded weight matrix. -/
theorem accO_last (f : S2560x6912.Idx → F .bf16) : accO T0 T1 A P f 5 = wFull T0 T1 A P := by
  funext y; rw [accO_eq, if_pos]
  have h0 : (y 0).val < 2560 := (y 0).isLt
  omega
end Full

/-- Row `r` of the table. -/
def tabRow (X : S2x128.Idx → BitVec 32) (r : Fin 2) : Fin 128 → BitVec 32 := fun n => X (ix2 r n)

section Outer
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)
variable (XA : Buf (Elt F) (hbM.view.loc (c : Thread nD τ)))
  (X1 : BufTy.Contents (Elt F) arg1.view.ty) (X2 : BufTy.Contents (Elt F) arg2.view.ty)

/-- The scratch's final contents from the three read buffers. -/
abbrev accS (f : Buf (Elt F) (wM.view.loc (c : Thread nD τ))) (k : ℕ) : Buf (Elt F) (wM.view.loc (c : Thread nD τ)) :=
  accO (tabRow (arg1.view.read (Elt F) X1) 0) (tabRow (arg1.view.read (Elt F) X1) 1) (arg2.view.read (Elt F) X2) (hbM.view.read (Elt F) XA) f k

/-- What every trip holds besides the current chunk's flight. -/
def baseR (k : ℕ) (f : Buf (Elt F) (wM.view.loc (c : Thread nD τ))) : sProp 𝕄 :=
  iprop((arg1.view.loc (c : Thread nD τ) ↦[arg1.view.set]{fullShare} X1)
    ∗ (arg2.view.loc (c : Thread nD τ) ↦[arg2.view.set]{fullShare} X2)
    ∗ (wM.view.loc (c : Thread nD τ) ↦[wM.view.set]{fullShare} f)
    ∗ (∃ W, owes (c : Thread nD τ) 0 W)
    ∗ bigSep (Ring.homeSet 1 k) (homeP c XA)
    ∗ (∃ f, slotP c (Ring.sl 2 (k + 1)) f) ∗ cellP c (Ring.sl 2 (k + 1)))
/-- Before trip `k < 5`: chunk `k` in flight. -/
def resF (k : ℕ) (f : Buf (Elt F) (wM.view.loc (c : Thread nD τ))) : sProp 𝕄 :=
  iprop(baseR c arg1 arg2 XA X1 X2 k f ∗ ∃ f, flightP c XA (Ring.sl 2 k) (Ring.bk 5 k) f)
/-- After the last: nothing in flight. -/
def resE (k : ℕ) (f : Buf (Elt F) (wM.view.loc (c : Thread nD τ))) : sProp 𝕄 :=
  iprop(baseR c arg1 arg2 XA X1 X2 k f ∗ (∃ f, slotP c (Ring.sl 2 k) f) ∗ cellP c (Ring.sl 2 k))

abbrev body1 (k : Fin k0_t1_loop.trips) : Prog (TpuEff nD τ sig (Elt F) Λ₀ .tc) Unit :=
  k0_t1_body (F := F) i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 k ()

/-- Contents after chunk `k`'s trip from `f`. -/
abbrev nextS (k : ℕ) (f : Buf (Elt F) (wM.view.loc (c : Thread nD τ))) : Buf (Elt F) (wM.view.loc (c : Thread nD τ)) :=
  fun y : S2560x6912.Idx => if (y 0).val / 512 = k then
    wFull (tabRow (arg1.view.read (Elt F) X1) 0) (tabRow (arg1.view.read (Elt F) X1) 1) (arg2.view.read (Elt F) X2) (hbM.view.read (Elt F) XA) y
    else f y

theorem trip_contents (k : Fin k0_t1_loop.trips) (f : Buf (Elt F) (wM.view.loc (c : Thread nD τ)))
    (g : Buf (Elt F) ((slot (Ring.sl 2 k.val)).view.loc (c : Thread nD τ))) :
    accI k.val
      (gW (View.readAt (Elt F) arg1.view (Rect.unit (s := S2x128) ![0, 0] S1x128.size inb_S2x128_S1x128_0_0).toLoadRect X1)
        (View.readAt (Elt F) arg1.view (Rect.unit (s := S2x128) ![1, 0] S1x128.size inb_S2x128_S1x128_1_0).toLoadRect X1)
        (View.read (Elt F) arg2.view X2)
        (View.read (Elt F) (slot (Ring.sl 2 k.val)).view (landed c XA (Ring.sl 2 k.val) (Ring.bk 5 k.val) g)))
      f (Scf.trips k0_t2_loop.lb k0_t2_loop.ub k0_t2_loop.st) = nextS c arg1 arg2 XA X1 X2 k.val f := by
  have hk := k1_lt k
  rw [show Scf.trips k0_t2_loop.lb k0_t2_loop.ub k0_t2_loop.st = 54 from by decide]
  refine (accI_last _ _ _).trans ?_
  funext y
  have h0 : (y 0).val < 2560 := (y 0).isLt
  show (if (y 0).val / 512 = k.val then _ else _) = if (y 0).val / 512 = k.val then _ else _
  split_ifs with h
  · have hr : ∀ x, View.read (Elt F) (slot (Ring.sl 2 k.val)).view (landed c XA (Ring.sl 2 k.val) (Ring.bk 5 k.val) g) x
        = (chunk (Ring.bk 5 k.val)).view.read (Elt F) XA x := by
      intro x
      refine View.read_writes_apply_of_pieces (Val := Elt F) _ _ ((chunk (Ring.bk 5 k.val)).view.read (Elt F) XA) _ ?_ x ?_
      · intro p hp; rw [List.mem_singleton] at hp; subst hp
        intro x
        show (chunk (Ring.bk 5 k.val)).view.read (Elt F) XA x = (chunk (Ring.bk 5 k.val)).view.read (Elt F) XA ((Rect.whole S256x6912).emb x)
        refine congrArg _ ?_
        funext a; apply Fin.ext; rw [Rect.emb_apply]; show (x a).val = 0 + 1 * (x a).val; omega
      · exact ⟨_, List.mem_singleton.2 rfl, by rw [Rect.set_whole]; exact Finset.mem_univ x⟩
    unfold gW wFull tabRow
    refine congrFun (congr (congr (congr (congrArg wElt ?_) ?_) rfl) ?_) _
    · funext n; rw [View.readAt_apply]; refine congrArg (arg1.view.read (Elt F) X1) ?_
      funext a; apply Fin.ext; fin_cases a
      · rfl
      · show 0 + 1 * n.val = n.val; omega
    · funext n; rw [View.readAt_apply]; refine congrArg (arg1.view.read (Elt F) X1) ?_
      funext a; apply Fin.ext; fin_cases a
      · rfl
      · show 0 + 1 * n.val = n.val; omega
    · rw [hr]
      show XA _ = XA _
      refine congrArg XA ?_
      funext a; apply Fin.ext; fin_cases a
      · refine (Rect.emb_apply _ _ _).trans ?_
        show 256 * (Ring.bk 5 k.val).val + 1 * ((y 0).val % 512 / 2) = (y 0).val / 2
        rw [Ring.bk_val hk]; omega
      · refine (Rect.emb_apply _ _ _).trans ?_
        show 0 + 1 * (y 1).val = (y 1).val
        omega
  · rfl

theorem trip1 (k : Fin k0_t1_loop.trips) (hk : k.val + 1 < 5) (f : Buf (Elt F) (wM.view.loc (c : Thread nD τ))) :
    resF c arg1 arg2 XA X1 X2 k f ⊢ wp frame (wpE (defs₀ (F := F)) Variants.none (c : Thread nD τ) none) Set.univ (body1 i arg1 harg1 arg2 harg2 arg3 harg3 arg4 harg4 arg5 harg5 arg6 harg6 arg8 harg8 arg9 harg9 arg10 harg10 arg11 harg11 arg12 harg12 k0_h1 k)
      (fun _ => resF c arg1 arg2 XA X1 X2 (k.val + 1) (nextS c arg1 arg2 XA X1 X2 k.val f)) := by
  have hc2 : k0_cond2 k = 1#1 := by revert k; decide +kernel
  unfold resF baseR
  rw [homes_here c XA k.val hk, homes_next c XA k.val hk, sl2_add2]
  iintro ⟨⟨H1, H2, HM, ⟨%W, HW⟩, ⟨Hg, Hrest⟩, ⟨%f0, HS⟩, HC⟩, ⟨%f1, HF⟩⟩
  dsimp only [body1]
  sl_unfold [k0_t1_body]
  sl_exec
  sl_step
  isplitl [H1 H2 HM HW HF_src Hrest HF_dst HF]
  · isplitl [H1]; · iexact H1
    isplitl [H2]; · iexact H2
    isplitl [HM]; · irw [← trip_contents c arg1 arg2 XA X1 X2 k f (slot (Ring.sl 2 k.val)).view.junk]; iexact HM
    isplitl [HW]; · iexists _; iexact HW
    isplitl [HF_src Hrest]
    · isplitl [HF_src]; · iexact HF_src
      iexact Hrest
    isplitl [HF_dst]; · iexists _; iexact HF_dst
    iexact HF
  iexists f0
  iexact HC

theorem trip1_last (k : Fin k0_t1_loop.trips) (hk : k.val = 4) (f : Buf (Elt F) (wM.view.loc (c : Thread nD τ))) :
    resF c arg1 arg2 XA X1 X2 k f ⊢ wp frame (wpE (defs₀ (F := F)) Variants.none (c : Thread nD τ) none) Set.univ (body1 i arg1 harg1 arg2 harg2 arg3 harg3 arg4 harg4 arg5 harg5 arg6 harg6 arg8 harg8 arg9 harg9 arg10 harg10 arg11 harg11 arg12 harg12 k0_h1 k)
      (fun _ => resE c arg1 arg2 XA X1 X2 (k.val + 1) (nextS c arg1 arg2 XA X1 X2 k.val f)) := by
  have hc2 : ¬ k0_cond2 k = 1#1 := by revert k; decide +kernel
  unfold resF resE baseR
  have ht : bigSep (Ring.homeSet 1 (k.val + 1)) (homeP c XA) = iprop(homeP c XA (Ring.bk 5 k.val) ∗ bigSep (Ring.homeSet 1 k.val) (homeP c XA)) := by
    rw [hk]; exact homes_tail c XA
  rw [ht, sl2_add2]
  iintro ⟨⟨H1, H2, HM, ⟨%W, HW⟩, Hrest, ⟨%f0, HS⟩, HC⟩, ⟨%f1, HF⟩⟩
  dsimp only [body1]
  sl_unfold [k0_t1_body]
  sl_exec
  sl_step
  isplitl [H1 H2 HM HW HF_src Hrest HF_dst HF]
  · isplitl [H1]; · iexact H1
    isplitl [H2]; · iexact H2
    isplitl [HM]; · irw [← trip_contents c arg1 arg2 XA X1 X2 k f (slot (Ring.sl 2 k.val)).view.junk]; iexact HM
    isplitl [HW]; · iexists _; iexact HW
    isplitl [HF_src Hrest]
    · isplitl [HF_src]; · iexact HF_src
      iexact Hrest
    isplitl [HF_dst]; · iexists _; iexact HF_dst
    iexact HF
  isplitl [HS]; · iexists _; iexact HS
  iexact HC

/-- The loop's resources before trip `k`. -/
def invO (f : Buf (Elt F) (wM.view.loc (c : Thread nD τ))) (k : ℕ) : sProp 𝕄 :=
  match k with
  | 0 => resF c arg1 arg2 XA X1 X2 0 f
  | k + 1 => if k + 1 < 5 then resF c arg1 arg2 XA X1 X2 (k + 1) (accS c arg1 arg2 XA X1 X2 f (k + 1))
    else resE c arg1 arg2 XA X1 X2 (k + 1) (accS c arg1 arg2 XA X1 X2 f (k + 1))

theorem invO_lt (f : Buf (Elt F) (wM.view.loc (c : Thread nD τ))) {k : ℕ} (hk : k < 5) :
    invO c arg1 arg2 XA X1 X2 f k = resF c arg1 arg2 XA X1 X2 k (accS c arg1 arg2 XA X1 X2 f k) := by
  cases k with
  | zero => rfl
  | succ k => exact if_pos hk

set_option warn.classDefReducibility false in
/-- The outer loop's invariant: the chunks before the trip decoded, the trip's own in flight. -/
@[sl_loop] def outerInv (f : Buf (Elt F) (wM.view.loc (c : Thread nD τ))) :
    LoopInvTy_k0_t1 (F := F) Unit ℕ (Pipeline.UD sig nD τ) ℕ Variants.none c none Set.univ i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 where
  inv k _ := invO c arg1 arg2 XA X1 X2 f k
  step k _ := by
    have hk := k1_lt k
    rw [invO_lt c arg1 arg2 XA X1 X2 f hk]
    by_cases h : k.val + 1 < 5
    · rw [show (fun _ : Unit => invO c arg1 arg2 XA X1 X2 f (k.val + 1)) = fun _ => resF c arg1 arg2 XA X1 X2 (k.val + 1) (accS c arg1 arg2 XA X1 X2 f (k.val + 1)) from
        funext fun _ => invO_lt c arg1 arg2 XA X1 X2 f h]
      exact trip1 c i arg1 harg1 arg2 harg2 arg3 harg3 arg4 harg4 arg5 harg5 arg6 harg6 arg8 harg8 arg9 harg9 arg10 harg10 arg11 harg11 arg12 harg12 k0_h1 XA X1 X2 k h _
    · rw [show (fun _ : Unit => invO c arg1 arg2 XA X1 X2 f (k.val + 1)) = fun _ => resE c arg1 arg2 XA X1 X2 (k.val + 1) (accS c arg1 arg2 XA X1 X2 f (k.val + 1)) from
        funext fun _ => if_neg h]
      exact trip1_last c i arg1 harg1 arg2 harg2 arg3 harg3 arg4 harg4 arg5 harg5 arg6 harg6 arg8 harg8 arg9 harg9 arg10 harg10 arg11 harg11 arg12 harg12 k0_h1 XA X1 X2 k (by omega) _

end Outer
end Cert.KernelIdeal.Hand
-- ==== Proof.Body.lean ====
module

public import proofs.«01_k».proof.Proof.Outer
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One grid point's body -/

/-- A load of the whole buffer reads its contents. -/
theorem readAt_full {sp : Space} {s : Shape} {e : EltTy} (v : View sig .tc sp s e) (f : BufTy.Contents (Elt F) v.ty) {off : Fin s.rank → ℕ} (h) (ho : ∀ a, off a = 0) :
    View.readAt (Elt F) v (Rect.unit (s := s) off s.size h).toLoadRect f = v.read (Elt F) f := by
  funext y
  rw [View.readAt_apply]
  refine congrArg _ ?_
  funext a; apply Fin.ext
  show off a + 1 * (y a).val = (y a).val
  rw [ho a]; omega

/-- A store over the whole buffer is what a read then finds. -/
theorem read_full {sp : Space} {s : Shape} {e : EltTy} (v : View sig .tc sp s e) (f : BufTy.Contents (Elt F) v.ty) {off : Fin s.rank → ℕ} (h) (ho : ∀ a, off a = 0)
    (w : s.Idx → Elt F e) : v.read (Elt F) (v.writes (Elt F) f [⟨Rect.unit (s := s) off s.size h, w⟩]) = w := by
  have he : ∀ y : s.Idx, (Rect.unit (s := s) off s.size h).emb y = y := fun y => by
    funext a; apply Fin.ext
    show off a + 1 * (y a).val = (y a).val
    rw [ho a]; omega
  funext y
  refine View.read_writes_apply_of_pieces (Val := Elt F) _ _ w _ ?_ y ?_
  · intro p hp; rw [List.mem_singleton] at hp; subst hp
    intro x
    exact congrArg w (he x).symm
  · refine ⟨_, List.mem_singleton.2 rfl, ?_⟩
    rw [Rect.mem_set_unit]
    intro a
    show off a ≤ (y a).val ∧ (y a).val < off a + s.size a
    have := (y a).isLt
    rw [ho a]; omega

theorem read_full_cons {sp : Space} {s : Shape} {e : EltTy} (v : View sig .tc sp s e) (f : BufTy.Contents (Elt F) v.ty) {off : Fin s.rank → ℕ} (h) (ho : ∀ a, off a = 0)
    (w : s.Idx → Elt F e) (L) : v.read (Elt F) (v.writes (Elt F) f (⟨Rect.unit (s := s) off s.size h, w⟩ :: L)) = w :=
  read_full v (v.writes (Elt F) f L) h ho w

theorem readCov_full {sp : Space} {s : Shape} {e : EltTy} (v : View sig .tc sp s e) {off : Fin s.rank → ℕ} (h) (ho : ∀ a, off a = 0)
    (w : s.Idx → Elt F e) {h' : ∀ a, off a + s.size a ≤ s.size a} :
    v.readCov [⟨Rect.unit (s := s) off s.size h, w⟩] (Rect.unit (s := s) off s.size h').toLoadRect = w := by
  unfold View.readCov
  exact (readAt_full v _ _ ho).trans (read_full v _ h ho w)

theorem z2 : ∀ a : Fin 2, (![0, 0] : Fin 2 → ℕ) a = 0 := by decide

theorem sl2_0 : Ring.sl 2 0 = 0 := Fin.ext (by rfl)
theorem sl2_1 : Ring.sl 2 (0 + 1) = 1 := Fin.ext (by rfl)
theorem bk5_0 : Ring.bk 5 0 = 0 := Fin.ext (by rfl)
theorem slotZ (hh hs) :
    (stM.slice (Rect.unit (s := S2x256x6912) ![0, 0, 0] S1x256x6912.size hh) hs).squeeze S256x6912 squeezes_S1x256x6912_S256x6912 = slot 0 := slot_congr (by rfl) _ _
theorem semZ (hh) :
    (cc0_scratch2.slice (Rect.unit (s := S2) ![0] S1.size hh)).squeeze S_ squeezes_S1_S_ = csm 0 := csm_congr (by rfl) _
theorem chunkZ (hh hs) :
    hbM.slice (Rect.unit (s := S1280x6912) ![0, 0] S256x6912.size hh) hs = chunk 0 := chunk_congr (by rfl) _ _

theorem homes_zero (c : Dev nD) (XA : Buf (Elt F) (hbM.view.loc (c : Thread nD τ))) :
    bigSep Finset.univ (homeP c XA) = iprop(homeP c XA 0 ∗ bigSep (Ring.homeSet 1 0) (homeP c XA)) := by
  have e : (Finset.univ : Finset (Fin 5)) = insert 0 (Ring.homeSet (NB := 5) 1 0) := by decide
  rw [e, bigSep_insert (by decide)]; rfl

section Body
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)
variable (XA : Buf (Elt F) (hbM.view.loc (c : Thread nD τ)))
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X8 : BufTy.Contents (Elt F) arg8.view.ty) (X9 : BufTy.Contents (Elt F) arg9.view.ty) (X10 : BufTy.Contents (Elt F) arg10.view.ty)
  (X11 : BufTy.Contents (Elt F) arg11.view.ty) (X12 : BufTy.Contents (Elt F) arg12.view.ty)

/-- The decoded matrix from the three read buffers. -/
abbrev wOf : Buf (Elt F) (wM.view.loc (c : Thread nD τ)) :=
  wFull (tabRow (arg1.view.read (Elt F) X1) 0) (tabRow (arg1.view.read (Elt F) X1) 1) (arg2.view.read (Elt F) X2) (hbM.view.read (Elt F) XA)

/-- What the outer loop leaves. -/
def exitO : sProp 𝕄 :=
  iprop((arg1.view.loc (c : Thread nD τ) ↦[arg1.view.set]{fullShare} X1)
    ∗ (arg2.view.loc (c : Thread nD τ) ↦[arg2.view.set]{fullShare} X2)
    ∗ (wM.view.loc (c : Thread nD τ) ↦[wM.view.set]{fullShare} wOf c arg1 arg2 XA X1 X2)
    ∗ (∃ W, owes (c : Thread nD τ) 0 W)
    ∗ bigSep Finset.univ (homeP c XA)
    ∗ (∃ f, slotP c 0 f) ∗ cellP c 0 ∗ (∃ f, slotP c 1 f) ∗ cellP c 1)

theorem invO_exit (f : Buf (Elt F) (wM.view.loc (c : Thread nD τ))) :
    invO c arg1 arg2 XA X1 X2 f 5 ⊢ exitO c arg1 arg2 XA X1 X2 := by
  rw [show invO c arg1 arg2 XA X1 X2 f 5 = resE c arg1 arg2 XA X1 X2 5 (accS c arg1 arg2 XA X1 X2 f 5) from
    (if_neg (by decide) : (if 4 + 1 < 5 then resF c arg1 arg2 XA X1 X2 (4 + 1) (accS c arg1 arg2 XA X1 X2 f (4 + 1)) else resE c arg1 arg2 XA X1 X2 (4 + 1) (accS c arg1 arg2 XA X1 X2 f (4 + 1))) = _)]
  unfold resE baseR exitO
  rw [show accS c arg1 arg2 XA X1 X2 f 5 = wOf c arg1 arg2 XA X1 X2 from accO_last _ _ _ _ _,
    show Ring.homeSet (NB := 5) 1 5 = Finset.univ from by decide,
    show Ring.sl 2 (5 + 1) = 0 from by decide, show Ring.sl 2 5 = 1 from by decide]
  iintro ⟨⟨H1, H2, HM, HW, Hh, HS, HC⟩, HS1, HC1⟩
  isplitl [H1]; · iexact H1
  isplitl [H2]; · iexact H2
  isplitl [HM]; · iexact HM
  isplitl [HW]; · iexact HW
  isplitl [Hh]; · iexact Hh
  isplitl [HS]; · iexact HS
  isplitl [HC]; · iexact HC
  isplitl [HS1]; · iexact HS1
  iexact HC1

set_option warn.classDefReducibility false in
instance outerExit (f : Buf (Elt F) (wM.view.loc (c : Thread nD τ))) :
    LoopExit (outerInv c i arg1 harg1 arg2 harg2 arg3 harg3 arg4 harg4 arg5 harg5 arg6 harg6 arg8 harg8 arg9 harg9 arg10 harg10 arg11 harg11 arg12 harg12 k0_h1 XA X1 X2 f) where
  post _ := exitO c arg1 arg2 XA X1 X2
  exit _ := by
    rw [show Scf.trips k0_t1_loop.lb k0_t1_loop.ub k0_t1_loop.st = 5 from by decide]
    exact invO_exit c arg1 arg2 XA X1 X2 f

/-- The kernel function on one grid point's buffers. -/
abbrev bodyP : Prog (TpuEff nD τ sig (Elt F) Λ₀ .tc) PUnit := cc0_qlora_bwd (F := F) i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2

/-- The six read buffers. -/
abbrev insP : sProp 𝕄 := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6))
/-- The five written buffers before the point. -/
abbrev outsP : sProp 𝕄 := iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12))
/-- The five written buffers after the point, the two accumulators from `a9` and `a10`, the matrix at `w`. -/
abbrev donePt (w : Vec F S2560x6912 .bf16) (a9 : Vec F S2560x16 .f32) (a10 : Vec F S16x6912 .f32) : sProp 𝕄 :=
  iprop((∃ g, ⌜arg8.view.read (Elt F) g = (k0_pay92 (arg6.view.read (Elt F) X6) (arg4.view.read (Elt F) X4) w (arg3.view.read (Elt F) X3))⌝ ∗ (arg8.view.loc (c : Thread nD τ) ↦[arg8.view.set]{fullShare} g))
    ∗ (∃ g, ⌜arg9.view.read (Elt F) g = (k0_pay1 (k0_pay93 a9) (k0_pay94 (arg6.view.read (Elt F) X6) (arg5.view.read (Elt F) X5) (arg4.view.read (Elt F) X4)))⌝ ∗ (arg9.view.loc (c : Thread nD τ) ↦[arg9.view.set]{fullShare} g))
    ∗ (∃ g, ⌜arg10.view.read (Elt F) g = (k0_pay2 (k0_pay88 (arg6.view.read (Elt F) X6)) (k0_pay91 (arg5.view.read (Elt F) X5) (arg3.view.read (Elt F) X3)) a10)⌝ ∗ (arg10.view.loc (c : Thread nD τ) ↦[arg10.view.set]{fullShare} g))
    ∗ (∃ g, ⌜arg11.view.read (Elt F) g = (k0_pay90 (arg6.view.read (Elt F) X6) (arg4.view.read (Elt F) X4))⌝ ∗ (arg11.view.loc (c : Thread nD τ) ↦[arg11.view.set]{fullShare} g))
    ∗ (∃ g, ⌜arg12.view.read (Elt F) g = (k0_pay91 (arg5.view.read (Elt F) X5) (arg3.view.read (Elt F) X3))⌝ ∗ (arg12.view.loc (c : Thread nD τ) ↦[arg12.view.set]{fullShare} g)))

theorem body_later (hz : ¬ k0_cond1 i = 1#1) (f : Buf (Elt F) (wM.view.loc (c : Thread nD τ))) (W : Waits sig Unit) :
    iprop(insP c arg1 arg2 arg3 arg4 arg5 arg6 X1 X2 X3 X4 X5 X6 ∗ outsP c arg8 arg9 arg10 arg11 arg12 X8 X9 X10 X11 X12
    ∗ (wM.view.loc (c : Thread nD τ) ↦[wM.view.set]{fullShare} f) ∗ owes (c : Thread nD τ) 0 W)
    ⊢ wp frame (wpE (defs₀ (F := F)) Variants.none (c : Thread nD τ) none) Set.univ (bodyP i arg1 harg1 arg2 harg2 arg3 harg3 arg4 harg4 arg5 harg5 arg6 harg6 arg8 harg8 arg9 harg9 arg10 harg10 arg11 harg11 arg12 harg12) (fun _ => iprop(insP c arg1 arg2 arg3 arg4 arg5 arg6 X1 X2 X3 X4 X5 X6
    ∗ donePt c arg3 arg4 arg5 arg6 arg8 arg9 arg10 arg11 arg12 X3 X4 X5 X6 (wM.view.read (Elt F) f) (arg9.view.read (Elt F) X9) (arg10.view.read (Elt F) X10)
    ∗ (wM.view.loc (c : Thread nD τ) ↦[wM.view.set]{fullShare} f) ∗ ∃ W, owes (c : Thread nD τ) 0 W)) := by
  iintro ⟨⟨H1, H2, H3, H4, H5, H6⟩, ⟨H8, H9, H10, H11, H12⟩, HM, HW⟩
  dsimp only [bodyP]
  sl_unfold [cc0_qlora_bwd, k0_part19]
  sl_exec
  sl_step
  sl_exec
  sl_step
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H8 H9 H10 H11 H12]
  · isplitl [H8]
    · iexists _; isplitr; swap; · iexact H8
      ipureintro
      rw [read_full arg8.view X8 _ z2, readAt_full arg6.view X6 _ z2, readAt_full arg4.view X4 _ z2, readAt_full arg3.view X3 _ z2, readAt_full wM.view f _ z2]
    isplitl [H9]
    · iexists _; isplitr; swap; · iexact H9
      ipureintro
      unfold body_later.sl.r_2 body_later.sl.r_3
      rw [read_full arg9.view X9 _ z2, readAt_full arg6.view X6 _ z2, readAt_full arg4.view X4 _ z2, readAt_full arg5.view X5 _ z2, readAt_full arg9.view X9 _ z2]
    isplitl [H10]
    · iexists _; isplitr; swap; · iexact H10
      ipureintro
      unfold body_later.sl.r body_later.sl.r_1
      rw [read_full arg10.view X10 _ z2, readAt_full arg6.view X6 _ z2, readAt_full arg3.view X3 _ z2, readAt_full arg5.view X5 _ z2, readAt_full arg10.view X10 _ z2]
    isplitl [H11]
    · iexists _; isplitr; swap; · iexact H11
      ipureintro
      rw [read_full arg11.view X11 _ z2, readAt_full arg6.view X6 _ z2, readAt_full arg4.view X4 _ z2]
    · iexists _; isplitr; swap; · iexact H12
      ipureintro
      rw [read_full arg12.view X12 _ z2, readAt_full arg5.view X5 _ z2, readAt_full arg3.view X3 _ z2]
  isplitl [HM]; · iexact HM
  iexists _; iexact HW

attribute [local sl_canon] sl2_0 sl2_1 bk5_0 slotZ semZ chunkZ in
theorem body_first (k0_h1 : k0_cond1 i = 1#1) (f : Buf (Elt F) (wM.view.loc (c : Thread nD τ))) (W : Waits sig Unit) :
    iprop(insP c arg1 arg2 arg3 arg4 arg5 arg6 X1 X2 X3 X4 X5 X6 ∗ outsP c arg8 arg9 arg10 arg11 arg12 X8 X9 X10 X11 X12
    ∗ (wM.view.loc (c : Thread nD τ) ↦[wM.view.set]{fullShare} f) ∗ owes (c : Thread nD τ) 0 W ∗ bigSep Finset.univ (homeP c XA)
    ∗ (∃ f, slotP c 0 f) ∗ cellP c 0 ∗ (∃ f, slotP c 1 f) ∗ cellP c 1)
    ⊢ wp frame (wpE (defs₀ (F := F)) Variants.none (c : Thread nD τ) none) Set.univ (bodyP i arg1 harg1 arg2 harg2 arg3 harg3 arg4 harg4 arg5 harg5 arg6 harg6 arg8 harg8 arg9 harg9 arg10 harg10 arg11 harg11 arg12 harg12) (fun _ => iprop(insP c arg1 arg2 arg3 arg4 arg5 arg6 X1 X2 X3 X4 X5 X6
    ∗ donePt c arg3 arg4 arg5 arg6 arg8 arg9 arg10 arg11 arg12 X3 X4 X5 X6 (wM.view.read (Elt F) (wOf c arg1 arg2 XA X1 X2)) (k0_pay86 (F := F)) (k0_pay87 (F := F))
    ∗ (wM.view.loc (c : Thread nD τ) ↦[wM.view.set]{fullShare} (wOf c arg1 arg2 XA X1 X2)) ∗ (∃ W, owes (c : Thread nD τ) 0 W) ∗ bigSep Finset.univ (homeP c XA)
    ∗ (∃ f, slotP c 0 f) ∗ cellP c 0 ∗ (∃ f, slotP c 1 f) ∗ cellP c 1)) := by
  conv_lhs => rw [homes_zero]
  iintro ⟨⟨H1, H2, H3, H4, H5, H6⟩, ⟨H8, H9, H10, H11, H12⟩, HM, HW, ⟨Hg0, Hh⟩, ⟨%f0, Hs0⟩, Hc0, ⟨%f1, Hs1⟩, Hc1⟩
  dsimp only [bodyP]
  sl_unfold [cc0_qlora_bwd, k0_part19]
  sl_exec
  sl_step
  isplitl [HL0 HL1 H3 H4 H5 H6]
  · isplitl [HL0]; · iexact HL0
    isplitl [HL1]; · iexact HL1
    isplitl [H3]; · iexact H3
    isplitl [H4]; · iexact H4
    isplitl [H5]; · iexact H5
    iexact H6
  isplitl [H8 H9 H10 H11 H12]
  · isplitl [H8]
    · iexists _; isplitr; swap; · iexact H8
      ipureintro
      unfold body_first.sl.v15
      rw [read_full arg8.view X8 _ z2, readAt_full arg6.view X6 _ z2, readAt_full arg4.view X4 _ z2, readAt_full arg3.view X3 _ z2, readAt_full wM.view _ _ z2]
    isplitl [H9]
    · iexists _; isplitr; swap; · iexact H9
      ipureintro
      unfold body_first.sl.r_2 body_first.sl.r_3 body_first.sl.v24 body_first.sl.H9_1
      rw [read_full_cons arg9.view X9 _ z2, readAt_full arg6.view X6 _ z2, readAt_full arg4.view X4 _ z2, readAt_full arg5.view X5 _ z2, readCov_full arg9.view _ z2]
    isplitl [H10]
    · iexists _; isplitr; swap; · iexact H10
      ipureintro
      unfold body_first.sl.r body_first.sl.r_1 body_first.sl.v31 body_first.sl.H10_1
      rw [read_full_cons arg10.view X10 _ z2, readAt_full arg6.view X6 _ z2, readAt_full arg3.view X3 _ z2, readAt_full arg5.view X5 _ z2, readCov_full arg10.view _ z2]
    isplitl [H11]
    · iexists _; isplitr; swap; · iexact H11
      ipureintro
      rw [read_full arg11.view X11 _ z2, readAt_full arg6.view X6 _ z2, readAt_full arg4.view X4 _ z2]
    · iexists _; isplitr; swap; · iexact H12
      ipureintro
      rw [read_full arg12.view X12 _ z2, readAt_full arg5.view X5 _ z2, readAt_full arg3.view X3 _ z2]
  isplitl [HL2]; · iexact HL2
  isplitl [HL3]; · iexists _; iexact HL3
  isplitl [HL4]; · iexact HL4
  isplitl [HL5]; · iexists _; iexact HL5
  isplitl [HL6]; · iexact HL6
  isplitl [HL7]; · iexists _; iexact HL7
  iexact HL8

end Body

end Cert.KernelIdeal.Hand

end

end
-- ==== Proof.Region.lean ====
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The region: proof data, the body at every point, the run -/

variable (m : (ℓ : Loc nD τ sig) → Buf (Elt F) ℓ) (ρ : Dev nD → PrngReg)

/-! ### The operands' pieces -/

abbrev G5 (b : Fin 5) : Finset S1280x6912.Idx := (Rect.unit (s := S1280x6912) (chOff b) S256x6912.size (chOff_inb b)).set
abbrev S2s (s : Fin 2) : Finset S2x256x6912.Idx := (Rect.unit (s := S2x256x6912) (slotOff s) S1x256x6912.size (slotOff_inb s)).set

omit [FloatOps F] in
theorem chunk_set (b : Fin 5) : (chunk b : Memref sig .tc .hbm _ _).view.set = G5 b := View.set_slice_whole _ _
omit [FloatOps F] in
theorem slot_set (s : Fin 2) : (slot s : Memref sig .tc .vmem _ _).view.set = S2s s := (View.set_reshape _ _).trans (View.set_slice_whole _ _)

theorem mem_G5 (b : Fin 5) (y : S1280x6912.Idx) : y ∈ G5 b ↔ (y 0).val / 256 = b.val := by
  rw [Rect.mem_set_unit]
  have h1 : (y 1).val < 6912 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 6912; omega
theorem mem_S2s (s : Fin 2) (y : S2x256x6912.Idx) : y ∈ S2s s ↔ (y 0).val = s.val := by
  rw [Rect.mem_set_unit]
  have h1 : (y 1).val < 256 := (y 1).isLt
  have h2 : (y 2).val < 6912 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 6912; omega
theorem G5_disjoint : ∀ b b' : Fin 5, b ≠ b' → Disjoint (G5 b) (G5 b') := by
  intro b b' hne; rw [Finset.disjoint_left]; intro y hy hy'; rw [mem_G5] at hy hy'; exact hne (Fin.ext (hy.symm.trans hy'))
theorem G5_cover : (Finset.univ : Finset (Fin 5)).biUnion G5 = Finset.univ := by
  ext y; simp only [Finset.mem_biUnion, Finset.mem_univ, true_and, iff_true]
  have h0 : (y 0).val < 1280 := (y 0).isLt
  exact ⟨⟨(y 0).val / 256, by omega⟩, by rw [mem_G5]⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]
  have h0 : (y 0).val < 2 := (y 0).isLt
  exact ⟨⟨(y 0).val, h0⟩, by rw [mem_S2s]⟩

omit [FloatOps F] in
theorem entails_of_eq {P Q : sProp 𝕄} (e : P = Q) : P ⊢ Q := e ▸ .rfl
omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The packed codes whole are the five chunks. -/
theorem codes_eq (c : Dev nD) (XA : Buf (Elt F) ((c : Thread nD τ).loc main_arg1)) :
    (((c : Thread nD τ).loc main_arg1) ↦{fullShare} XA : sProp 𝕄) = bigSep Finset.univ (homeP c XA) := by
  rw [Ring.pointsTo_blocks (ℓ := (c : Thread nD τ).loc main_arg1) G5 G5_disjoint G5_cover]
  exact bigSep_congr fun b _ => by rw [← chunk_set]; rfl

omit [FloatOps F] in
theorem slotP_eq (c : Dev nD) (s : Fin 2) (f) : slotP c s f = (((c : Thread nD τ).loc cc0_scratch1) ↦[S2s s]{fullShare} f : sProp 𝕄) :=
  congrArg (fun S => (_ ↦[S]{fullShare} f : sProp 𝕄)) (slot_set s)
/-- The landing buffer whole is its two slots, -/
theorem land_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
/-- and back. -/
theorem land_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

/-- The kernel's own two counters. -/
abbrev osem0 : Fin 2 → SemLoc sig := fun s => .dma (csm s).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1) := by
  unfold Pipeline.ownSems0; rw [bigSep_fin2]

/-- The operand the body copies out of itself: the packed codes. -/
def H0 : Finset (Ref sig .tc) := {main_arg1}
theorem H0_sub : H0 ⊆ Pipeline.restRefs sig spec0 := by decide
theorem H0_eq (c : Dev nD) :
    (bigSep H0 (fun b => ((c : Thread nD τ).loc b) ↦{fullShare} V m c b) : sProp 𝕄) = (((c : Thread nD τ).loc main_arg1) ↦{fullShare} V m c main_arg1) := by
  rw [BI.bigSep_eq_bigSepL_of_eq [main_arg1] (by decide) (by decide)]; rfl

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ### The values -/

abbrev ms0 (t : Fin cfg0.N) : Memref sig .tc .vmem S2x128 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x6912 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2560x16 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x6912 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2560 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x6912 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x2560 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2560x16 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S16x6912 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x16 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x16 .bf16 := win0_10.stage (cfg0.slots t 10)
abbrev hs10 (t : Fin cfg0.N) : (ms10 t).IsWhole := hstage0_10 ((cfg0.slots t 10).cast nbuf0_10)

/-- The first grid point, and the `n`-th. -/
abbrev pt0 : Fin cfg0.N := ⟨0, by decide⟩
def pt (n : ℕ) : Fin cfg0.N := ⟨n % 48, Nat.mod_lt _ (by decide)⟩
theorem pt_val (t : Fin cfg0.N) : pt t.val = t := Fin.ext (Nat.mod_eq_of_lt (show t.val < 48 from t.isLt))

/-- The decoded matrix, from the table, the scales and the packed codes. -/
def Wm (c : Dev nD) : S2560x6912.Idx → F .bf16 :=
  wFull (tabRow (iblk m c 0 pt0) 0) (tabRow (iblk m c 0 pt0) 1) (iblk m c 1 pt0) (hbM.view.read (Elt F) (V m c main_arg1))
abbrev xB (c : Dev nD) (t : Fin cfg0.N) : Vec F S256x2560 .bf16 := iblk m c 4 t
abbrev dyB (c : Dev nD) (t : Fin cfg0.N) : Vec F S256x6912 .bf16 := iblk m c 5 t
abbrev laB (c : Dev nD) (t : Fin cfg0.N) : Vec F S2560x16 .bf16 := iblk m c 2 t
abbrev lbB (c : Dev nD) (t : Fin cfg0.N) : Vec F S16x6912 .bf16 := iblk m c 3 t

/-- The first accumulator after a point that found `a` in it, -/
def stepA (c : Dev nD) (t : Fin cfg0.N) (a : Vec F S2560x16 .f32) : Vec F S2560x16 .f32 :=
  k0_pay1 (k0_pay93 a) (k0_pay94 (dyB m c t) (xB m c t) (lbB m c t))
/-- and the second. -/
def stepB (c : Dev nD) (t : Fin cfg0.N) (a : Vec F S16x6912 .f32) : Vec F S16x6912 .f32 :=
  k0_pay2 (k0_pay88 (dyB m c t)) (k0_pay91 (xB m c t) (laB m c t)) a
/-- The accumulators after point `n`. -/
def accA (c : Dev nD) : ℕ → Vec F S2560x16 .f32
  | 0 => stepA m c (pt 0) (k0_pay86 (F := F))
  | n + 1 => stepA m c (pt (n + 1)) (accA c n)
def accB (c : Dev nD) : ℕ → Vec F S16x6912 .f32
  | 0 => stepB m c (pt 0) (k0_pay87 (F := F))
  | n + 1 => stepB m c (pt (n + 1)) (accB c n)
def dxB (c : Dev nD) (t : Fin cfg0.N) : Vec F S256x2560 .bf16 := k0_pay92 (dyB m c t) (lbB m c t) (Wm m c) (laB m c t)
def gB (c : Dev nD) (t : Fin cfg0.N) : Vec F S256x16 .bf16 := k0_pay90 (dyB m c t) (lbB m c t)
def hB (c : Dev nD) (t : Fin cfg0.N) : Vec F S256x16 .bf16 := k0_pay91 (xB m c t) (laB m c t)

/-! ### The proof data -/

/-- Between two points: the decoded matrix in place, the rest as at launch. -/
def ΦL (c : Dev nD) : sProp 𝕄 :=
  iprop((((c : Thread nD τ).loc cc0_scratch0) ↦{fullShare} (Wm m c : Buf (Elt F) ((c : Thread nD τ).loc cc0_scratch0)))
    ∗ (∃ f : Buf (Elt F) ((c : Thread nD τ).loc cc0_scratch1), ((c : Thread nD τ).loc cc0_scratch1) ↦{fullShare} f)
    ∗ (∃ r, prngReg c r) ∗ Pipeline.ownSems0 osem0 c
    ∗ bigSep H0 (fun b => ((c : Thread nD τ).loc b) ↦{fullShare} V m c b))
/-- Before the first point: everything as at launch. -/
def ΦZ (c : Dev nD) : sProp 𝕄 := Pipeline.ΦD osem0 spec0 H0 (V m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxB m c t
    | ⟨7, _⟩ => accA m c t.val
    | ⟨8, _⟩ => accB m c t.val
    | ⟨9, _⟩ => gB m c t
    | ⟨10, _⟩ => hB m c t
  Φ t := if t.val = 0 then ΦZ m c else ΦL m c
  q _ := fullShare
  owed _ := 0

theorem Φ_at (c : Dev nD) (t : Fin (cfg0.N + 1)) : (dats m 0 c).Φ t = if t.val = 0 then ΦZ m c else ΦL m c := by dsimp only [dats]
theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dxB m c t := by dsimp only [dats]
theorem after_7 (c : Dev nD) (t : Fin cfg0.N) : (dats m 0 c).after 7 t = accA m c t.val := by dsimp only [dats]
theorem after_8 (c : Dev nD) (t : Fin cfg0.N) : (dats m 0 c).after 8 t = accB m c t.val := by dsimp only [dats]
theorem after_9 (c : Dev nD) (t : Fin cfg0.N) : (dats m 0 c).after 9 t = gB m c t := by dsimp only [dats]
theorem after_10 (c : Dev nD) (t : Fin cfg0.N) : (dats m 0 c).after 10 t = hB m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_7 (c : Dev nD) (t : Fin cfg0.N) (ht : t.val ≠ 0) (d) : (dats m 0 c).before 7 t d = accA m c (t.val - 1) := by
  have hN : t.val < 48 := t.isLt
  rw [(dats m 0 c).before_out_kept 7 rfl t ht (by rw [Bool.eq_false_iff, ne_eq, flush0_7]; show ¬ (t.val - 1) % 48 = 47; omega) (fun _ => rfl) (fun _ _ => rfl)]
  rw [after_7]
theorem before_8 (c : Dev nD) (t : Fin cfg0.N) (ht : t.val ≠ 0) (d) : (dats m 0 c).before 8 t d = accB m c (t.val - 1) := by
  have hN : t.val < 48 := t.isLt
  rw [(dats m 0 c).before_out_kept 8 rfl t ht (by rw [Bool.eq_false_iff, ne_eq, flush0_8]; show ¬ (t.val - 1) % 48 = 47; omega) (fun _ => rfl) (fun _ _ => rfl)]
  rw [after_8]

theorem cond1_iff : ∀ t : Fin cfg0.N, k0_cond1 (grid0.coords t) = 1#1 ↔ t.val = 0 := by decide +kernel

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

omit [FloatOps F] in
/-- The matrix' buffer whole, under its memref's own name. -/
theorem wM_eq (c : Dev nD) (f : Buf (Elt F) ((c : Thread nD τ).loc cc0_scratch0)) :
    ((((c : Thread nD τ).loc cc0_scratch0) ↦{fullShare} f) : sProp 𝕄) = (wM.view.loc (c : Thread nD τ) ↦[wM.view.set]{fullShare} f) :=
by
  show _ = (((c : Thread nD τ).loc cc0_scratch0) ↦[(View.whole cc0_scratch0).set]{fullShare} f)
  rw [View.set_whole]

theorem accA_pos (c : Dev nD) (t : Fin cfg0.N) (ht : t.val ≠ 0) : accA m c t.val = stepA m c t (accA m c (t.val - 1)) := by
  obtain ⟨n, hn⟩ := Nat.exists_eq_succ_of_ne_zero ht
  have e : pt (n + 1) = t := by rw [← pt_val t, hn]
  rw [hn]; show stepA m c (pt (n + 1)) (accA m c n) = _; rw [e]; rfl
theorem accB_pos (c : Dev nD) (t : Fin cfg0.N) (ht : t.val ≠ 0) : accB m c t.val = stepB m c t (accB m c (t.val - 1)) := by
  obtain ⟨n, hn⟩ := Nat.exists_eq_succ_of_ne_zero ht
  have e : pt (n + 1) = t := by rw [← pt_val t, hn]
  rw [hn]; show stepB m c (pt (n + 1)) (accB m c n) = _; rw [e]; rfl

theorem sound_later (c : Dev nD) (t : Fin cfg0.N) (ht : t.val ≠ 0) :
    bodyPre m c t ⊢ wp frame (wpE (defs₀ (F := F)) Variants.none c none) Set.univ (bodyAt0 t) (fun _ => bodyPost m c t) := by
  have hz : ¬ k0_cond1 (grid0.coords t) = 1#1 := fun h => ht ((cond1_iff t).1 h)
  unfold bodyPre bodyPost bodyAt0
  rw [Φ_at, Φ_at, if_neg (show ¬ t.castSucc.val = 0 from ht), if_neg (show ¬ t.succ.val = 0 from Nat.succ_ne_zero _)]
  unfold ΦL; rw [wM_eq]
  unfold Dat.owesAt Pipeline.owesWithin owns
  rw [show (dats m 0 c).owed t.castSucc = 0 from rfl, show (dats m 0 c).owed t.succ = 0 from rfl]
  iintro ⟨⟨HM, HR⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  rw [before_0] at h0; rw [before_1] at h1; rw [before_2] at h2; rw [before_3] at h3; rw [before_4] at h4; rw [before_5] at h5
  rw [before_7 m c t ht] at h7; rw [before_8 m c t ht] at h8
  iapply (wp_wand_r _ _ _)
  isplitl [HM HW H0 H1 H2 H3 H4 H5 H6 H7 H8 H9 H10]
  · iapply (body_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) f0 f1 f2 f3 f4 f5 f6 f7 f8 f9 f10 hz (Wm m c) W)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 H10]
    · isplitl [H6]; · iexact H6
      isplitl [H7]; · iexact H7
      isplitl [H8]; · iexact H8
      isplitl [H9]; · iexact H9
      iexact H10
    isplitl [HM]; · iexact HM
    iexact HW
  iintro %a ⟨⟨H0, H1, H2, H3, H4, H5⟩, ⟨⟨%g6, %h6, H6⟩, ⟨%g7, %h7', H7⟩, ⟨%g8, %h8', H8⟩, ⟨%g9, %h9, H9⟩, ⟨%g10, %h10, H10⟩⟩, HM, ⟨%W', HW⟩⟩
  isplitl [HM HR]
  · isplitl [HM]; · iexact HM
    iexact HR
  isplitl [HW]
  · iexists W'; isplitr; · ipureintro; exact fun _ _ => Or.inl trivial
    iexact HW
  isplitl [H0]
  · iexists _; isplitr; swap; · iexact H0
    ipureintro; rw [after_0]; exact h0
  isplitl [H1]
  · iexists _; isplitr; swap; · iexact H1
    ipureintro; rw [after_1]; exact h1
  isplitl [H2]
  · iexists _; isplitr; swap; · iexact H2
    ipureintro; rw [after_2]; exact h2
  isplitl [H3]
  · iexists _; isplitr; swap; · iexact H3
    ipureintro; rw [after_3]; exact h3
  isplitl [H4]
  · iexists _; isplitr; swap; · iexact H4
    ipureintro; rw [after_4]; exact h4
  isplitl [H5]
  · iexists _; isplitr; swap; · iexact H5
    ipureintro; rw [after_5]; exact h5
  isplitl [H6]
  · iexists _; isplitr; swap; · iexact H6
    ipureintro; rw [after_6]; refine h6.trans ?_
    unfold dxB; rw [h2, h3, h5]; rfl
  isplitl [H7]
  · iexists _; isplitr; swap; · iexact H7
    ipureintro; rw [after_7]; refine h7'.trans ?_
    rw [accA_pos m c t ht]; unfold stepA; rw [h3, h4, h5, h7]
  isplitl [H8]
  · iexists _; isplitr; swap; · iexact H8
    ipureintro; rw [after_8]; refine h8'.trans ?_
    rw [accB_pos m c t ht]; unfold stepB; rw [h2, h4, h5, h8]
  isplitl [H9]
  · iexists _; isplitr; swap; · iexact H9
    ipureintro; rw [after_9]; refine h9.trans ?_
    unfold gB; rw [h3, h5]
  · iexists _; isplitr; swap; · iexact H10
    ipureintro; rw [after_10]; refine h10.trans ?_
    unfold hB; rw [h2, h4]

theorem sound_first (c : Dev nD) (t : Fin cfg0.N) (ht : t.val = 0) :
    bodyPre m c t ⊢ wp frame (wpE (defs₀ (F := F)) Variants.none c none) Set.univ (bodyAt0 t) (fun _ => bodyPost m c t) := by
  have hz : k0_cond1 (grid0.coords t) = 1#1 := (cond1_iff t).2 ht
  obtain rfl : t = pt0 := Fin.ext ht
  unfold bodyPre bodyPost bodyAt0
  rw [Φ_at, Φ_at, if_pos (show (Fin.castSucc pt0).val = 0 from rfl), if_neg (show ¬ (Fin.succ pt0).val = 0 from Nat.succ_ne_zero _)]
  unfold ΦZ ΦL; rw [Pipeline.ΦD_eq, scopedRest0_eq, ownSems00_eq, H0_eq, codes_eq, wM_eq]
  unfold Dat.owesAt Pipeline.owesWithin owns
  rw [show (dats m 0 c).owed (Fin.castSucc pt0) = 0 from rfl, show (dats m 0 c).owed (Fin.succ pt0) = 0 from rfl]
  iintro ⟨⟨⟨⟨%fw, HM⟩, HS⟩, HP, ⟨HC0, HC1⟩, HX⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  rw [before_0] at h0; rw [before_1] at h1; rw [before_2] at h2; rw [before_3] at h3; rw [before_4] at h4; rw [before_5] at h5
  ihave HS' := (land_split c) $$ HS
  icases HS' with ⟨HS0, HS1⟩
  ihave HM' := (entails_of_eq (wM_eq c fw)) $$ HM
  iapply (wp_wand_r _ _ _)
  isplitl [HM' HW HX HS0 HS1 HC0 HC1 H0 H1 H2 H3 H4 H5 H6 H7 H8 H9 H10]
  · iapply (body_first c (grid0.coords pt0) (ms0 pt0) (hs0 pt0) (ms1 pt0) (hs1 pt0) (ms2 pt0) (hs2 pt0) (ms3 pt0) (hs3 pt0) (ms4 pt0) (hs4 pt0) (ms5 pt0) (hs5 pt0) (ms6 pt0) (hs6 pt0) (ms7 pt0) (hs7 pt0) (ms8 pt0) (hs8 pt0) (ms9 pt0) (hs9 pt0) (ms10 pt0) (hs10 pt0) (V m c main_arg1) f0 f1 f2 f3 f4 f5 f6 f7 f8 f9 f10 hz fw W)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 H10]
    · isplitl [H6]; · iexact H6
      isplitl [H7]; · iexact H7
      isplitl [H8]; · iexact H8
      isplitl [H9]; · iexact H9
      iexact H10
    isplitl [HM']; · iexact HM'
    isplitl [HW]; · iexact HW
    isplitl [HX]; · iexact HX
    isplitl [HS0]; · iexact HS0
    isplitl [HC0]; · iexact HC0
    isplitl [HS1]; · iexact HS1
    iexact HC1
  have hW : wOf c (ms0 pt0) (ms1 pt0) (V m c main_arg1) f0 f1 = Wm m c := by unfold wOf Wm; rw [h0, h1]
  rw [hW]
  iintro %a ⟨⟨H0, H1, H2, H3, H4, H5⟩, ⟨⟨%g6, %h6, H6⟩, ⟨%g7, %h7, H7⟩, ⟨%g8, %h8, H8⟩, ⟨%g9, %h9, H9⟩, ⟨%g10, %h10, H10⟩⟩, HM, ⟨%W', HW⟩, HX, HS0, HC0, HS1, HC1⟩
  isplitl [HM HX HS0 HS1 HC0 HC1 HP]
  · isplitl [HM]; · iexact HM
    isplitl [HS0 HS1]
    · iapply (land_join c)
      isplitl [HS0]; · iexact HS0
      iexact HS1
    isplitl [HP]; · iexact HP
    isplitl [HC0 HC1]
    · isplitl [HC0]; · iexact HC0
      iexact HC1
    iexact HX
  isplitl [HW]
  · iexists W'; isplitr; · ipureintro; exact fun _ _ => Or.inl trivial
    iexact HW
  isplitl [H0]
  · iexists _; isplitr; swap; · iexact H0
    ipureintro; rw [after_0]; exact h0
  isplitl [H1]
  · iexists _; isplitr; swap; · iexact H1
    ipureintro; rw [after_1]; exact h1
  isplitl [H2]
  · iexists _; isplitr; swap; · iexact H2
    ipureintro; rw [after_2]; exact h2
  isplitl [H3]
  · iexists _; isplitr; swap; · iexact H3
    ipureintro; rw [after_3]; exact h3
  isplitl [H4]
  · iexists _; isplitr; swap; · iexact H4
    ipureintro; rw [after_4]; exact h4
  isplitl [H5]
  · iexists _; isplitr; swap; · iexact H5
    ipureintro; rw [after_5]; exact h5
  isplitl [H6]
  · iexists _; isplitr; swap; · iexact H6
    ipureintro; rw [after_6]; refine h6.trans ?_
    unfold dxB; rw [h2, h3, h5]; rfl
  isplitl [H7]
  · iexists _; isplitr; swap; · iexact H7
    ipureintro; rw [after_7]; refine h7.trans ?_
    rw [show accA m c (pt0).val = stepA m c pt0 (k0_pay86 (F := F)) from rfl]; unfold stepA; rw [h3, h4, h5]
  isplitl [H8]
  · iexists _; isplitr; swap; · iexact H8
    ipureintro; rw [after_8]; refine h8.trans ?_
    rw [show accB m c (pt0).val = stepB m c pt0 (k0_pay87 (F := F)) from rfl]; unfold stepB; rw [h2, h4, h5]
  isplitl [H9]
  · iexists _; isplitr; swap; · iexact H9
    ipureintro; rw [after_9]; refine h9.trans ?_
    unfold gB; rw [h3, h5]
  · iexists _; isplitr; swap; · iexact H10
    ipureintro; rw [after_10]; refine h10.trans ?_
    unfold hB; rw [h2, h4]

theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_later m c t ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Φ_out (c : Dev nD) : (dats m 0 c).Φ (Fin.last cfg0.N) ⊢ Pipeline.ΦD osem0 spec0 H0 (V m) c := by
  rw [Φ_at, if_neg (by decide)]
  unfold ΦL; rw [Pipeline.ΦD_eq, scopedRest0_eq]
  iintro ⟨HM, HS, HP, HC, HX⟩
  isplitl [HM HS]
  · isplitl [HM]; · iexists _; iexact HM
    iexact HS
  isplitl [HP]; · iexact HP
  isplitl [HC]; · iexact HC
  iexact HX

set_option backward.isDefEq.respectTransparency.types false in
/-- The run: every window's array at what its points wrote, every other buffer as before, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := Φ_out m)

theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).2 main_arg5 (Pipeline.mem_restRefs_of main_arg5 (by decide) (by decide))).trans (V_main_arg5 m c)⟩

/-- The frame: from any memory with zero counters every execution ends with the arguments unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m h.1 c, h.2⟩) (run_main m ρ)

end Cert.KernelIdeal.Hand

end

end
-- ==== Proof.Products.lean ====
/- The kernel's products over the extended reals, element by element: every matrix product of the body is a finite sum. -/
module

public import proofs.«01_k».proof.Proof.Decode
public import proofs.«01_k».proof.Proof.Gen.KernelIdeal.Skeleton
public import Idealize.ShloMosaic.Lib.ValueIdx
public import Idealize.ShloMosaic.Lib.TwoAxisContraction
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.ValueIdx

/-- A product that contracts one axis of extent `n`, at `i`: the accumulator plus the sum of the products of the elements
    that `L` and `R` name. -/
theorem mm {sl sr so : Shape} (D : DotDims sl sr so) (n : ℕ) (hr : D.contr.rank = 1) (hs : D.contr.size ⟨0, by omega⟩ = n)
    (i : so.Idx) (L : Fin n → sl.Idx) (R : Fin n → sr.Idx)
    (hL : ∀ (q : D.contr.Idx) (k : Fin n), (q ⟨0, by omega⟩ : ℕ) = k.val → D.lhsIdx i q = L k)
    (hR : ∀ (q : D.contr.Idx) (k : Fin n), (q ⟨0, by omega⟩ : ℕ) = k.val → D.rhsIdx i q = R k)
    (lhs : sl.Idx → EReal) (rhs : sr.Idx → EReal) (acc : so.Idx → EReal) :
    Ideal.matmul D lhs rhs acc i = acc i + ∑ k : Fin n, lhs (L k) * rhs (R k) := by
  unfold Ideal.matmul
  rw [← Equiv.sum_comp (contrEquiv1 D n hr hs).symm]
  refine congrArg (acc i + ·) (Finset.sum_congr rfl fun k _ => ?_)
  have hk := contrEquiv1_symm_val D n hr hs k
  rw [hL _ k hk, hR _ k hk]

/-- The literal two. -/
abbrev two : EReal := Ideal.ofBits .f32 0x40000000#32

theorem two_eq : two = ((2 : ℝ) : EReal) := by
  show Ideal.ofBits .f32 0x40000000#32 = _
  simp [Ideal.ofBits, Ideal.ieee]
  rw [← EReal.coe_mul]; norm_num
theorem two_add (a b : EReal) : two * (a + b) = two * a + two * b :=
  EReal.left_distrib_of_nonneg_of_ne_top (by rw [two_eq]; exact_mod_cast (by norm_num : (0 : ℝ) ≤ 2)) (by rw [two_eq]; exact EReal.coe_ne_top _) a b
theorem two_sum {ι : Type*} (s : Finset ι) (f : ι → EReal) : two * (∑ k ∈ s, f k) = ∑ k ∈ s, two * f k := by
  classical
  induction s using Finset.induction_on with
  | empty => simp
  | insert a s ha ih => rw [Finset.sum_insert ha, Finset.sum_insert ha, two_add, ih]

theorem pay88_eq (v : Vec Ideal S256x6912 .bf16) : k0_pay88 v = v := shapeCast_self v _
theorem pay89_eq (v : Vec Ideal S256x2560 .bf16) : k0_pay89 v = v := shapeCast_self v _
theorem pay93_eq (v : Vec Ideal S2560x16 .f32) : k0_pay93 v = v := shapeCast_self v _

/-- A block of g: rows of dy times rows of lora_b. -/
theorem pay90_apply (dy : Vec Ideal S256x6912 .bf16) (lb : Vec Ideal S16x6912 .bf16) (i : S256x16.Idx) :
    k0_pay90 dy lb i = ∑ k : Fin 6912, dy (ix2 (i 0) k) * lb (ix2 (i 1) k) := by
  unfold k0_pay90
  show Ideal.matmul dot_S256x6912_S16x6912_S256x16_1_1_0_0_n_n (k0_pay88 dy) lb (constant (F := Ideal) S256x16 .f32 0x00000000#32) i = _
  rw [pay88_eq, mm dot_S256x6912_S16x6912_S256x16_1_1_0_0_n_n 6912 rfl rfl i (fun k => ix2 (i 0) k) (fun k => ix2 (i 1) k)
    (fun q k h => funext fun a => Fin.ext (by match a with | ⟨0, _⟩ => rfl | ⟨1, _⟩ => exact h))
    (fun q k h => funext fun a => Fin.ext (by match a with | ⟨0, _⟩ => rfl | ⟨1, _⟩ => exact h))]
  show Ideal.ofBits .f32 0x00000000#32 + _ = _
  rw [Ideal.ofBits_zero_f32, zero_add]

/-- A block of h: rows of x times columns of lora_a. -/
theorem pay91_apply (x : Vec Ideal S256x2560 .bf16) (la : Vec Ideal S2560x16 .bf16) (i : S256x16.Idx) :
    k0_pay91 x la i = ∑ k : Fin 2560, x (ix2 (i 0) k) * la (ix2 k (i 1)) := by
  unfold k0_pay91
  show Ideal.matmul dot_S256x2560_S2560x16_S256x16_1_0_0_1_n_n (k0_pay89 x) la (constant (F := Ideal) S256x16 .f32 0x00000000#32) i = _
  rw [pay89_eq, mm dot_S256x2560_S2560x16_S256x16_1_0_0_1_n_n 2560 rfl rfl i (fun k => ix2 (i 0) k) (fun k => ix2 k (i 1))
    (fun q k h => funext fun a => Fin.ext (by match a with | ⟨0, _⟩ => rfl | ⟨1, _⟩ => exact h))
    (fun q k h => funext fun a => Fin.ext (by match a with | ⟨0, _⟩ => exact h | ⟨1, _⟩ => rfl))]
  show Ideal.ofBits .f32 0x00000000#32 + _ = _
  rw [Ideal.ofBits_zero_f32, zero_add]

/-- A block of dx: rows of dy times rows of the decoded matrix, plus twice the block of g times rows of lora_a. -/
theorem pay92_apply (dy : Vec Ideal S256x6912 .bf16) (lb : Vec Ideal S16x6912 .bf16) (W : Vec Ideal S2560x6912 .bf16)
    (la : Vec Ideal S2560x16 .bf16) (i : S256x2560.Idx) :
    k0_pay92 dy lb W la i = (∑ k : Fin 6912, dy (ix2 (i 0) k) * W (ix2 (i 1) k))
      + two * ∑ r : Fin 16, k0_pay90 dy lb (ix2 (i 0) r) * la (ix2 (i 1) r) := by
  show Ideal.matmul dot_S256x6912_S2560x6912_S256x2560_1_1_0_0_n_n (k0_pay88 dy) W _ i
    + two * Ideal.matmul dot_S256x16_S2560x16_S256x2560_1_1_0_0_n_n (k0_pay90 dy lb) la _ i = _
  rw [pay88_eq, mm dot_S256x6912_S2560x6912_S256x2560_1_1_0_0_n_n 6912 rfl rfl i (fun k => ix2 (i 0) k) (fun k => ix2 (i 1) k)
    (fun q k h => funext fun a => Fin.ext (by match a with | ⟨0, _⟩ => rfl | ⟨1, _⟩ => exact h))
    (fun q k h => funext fun a => Fin.ext (by match a with | ⟨0, _⟩ => rfl | ⟨1, _⟩ => exact h)),
    mm dot_S256x16_S2560x16_S256x2560_1_1_0_0_n_n 16 rfl rfl i (fun k => ix2 (i 0) k) (fun k => ix2 (i 1) k)
    (fun q k h => funext fun a => Fin.ext (by match a with | ⟨0, _⟩ => rfl | ⟨1, _⟩ => exact h))
    (fun q k h => funext fun a => Fin.ext (by match a with | ⟨0, _⟩ => rfl | ⟨1, _⟩ => exact h))]
  show (Ideal.ofBits .f32 0x00000000#32 + _) + two * (Ideal.ofBits .f32 0x00000000#32 + _) = _
  rw [Ideal.ofBits_zero_f32, zero_add, zero_add]

/-- One step of the first accumulator: it gains twice the block's columns of x times columns of g. -/
theorem payA_apply (a : Vec Ideal S2560x16 .f32) (dy : Vec Ideal S256x6912 .bf16) (x : Vec Ideal S256x2560 .bf16)
    (lb : Vec Ideal S16x6912 .bf16) (i : S2560x16.Idx) :
    k0_pay1 (k0_pay93 a) (k0_pay94 dy x lb) i
      = a i + two * ∑ k : Fin 256, x (ix2 k (i 0)) * k0_pay90 dy lb (ix2 k (i 1)) := by
  show k0_pay93 a i + two * Ideal.matmul dot_S256x2560_S256x16_S2560x16_0_0_1_1_n_n (k0_pay89 x) (k0_pay90 dy lb) _ i = _
  rw [pay93_eq, pay89_eq, mm dot_S256x2560_S256x16_S2560x16_0_0_1_1_n_n 256 rfl rfl i (fun k => ix2 k (i 0)) (fun k => ix2 k (i 1))
    (fun q k h => funext fun a => Fin.ext (by match a with | ⟨0, _⟩ => exact h | ⟨1, _⟩ => rfl))
    (fun q k h => funext fun a => Fin.ext (by match a with | ⟨0, _⟩ => exact h | ⟨1, _⟩ => rfl))]
  show a i + two * (Ideal.ofBits .f32 0x00000000#32 + _) = _
  rw [Ideal.ofBits_zero_f32, zero_add]

/-- One step of the second accumulator: it gains twice the block's columns of h times columns of dy. -/
theorem payB_apply (a : Vec Ideal S16x6912 .f32) (dy : Vec Ideal S256x6912 .bf16) (h : Vec Ideal S256x16 .bf16) (i : S16x6912.Idx) :
    k0_pay2 (k0_pay88 dy) h a i = a i + two * ∑ k : Fin 256, h (ix2 k (i 0)) * dy (ix2 k (i 1)) := by
  rw [pay88_eq]
  show shapeCast S16x6912 a _ i + two * Ideal.matmul dot_S256x16_S256x6912_S16x6912_0_0_1_1_n_n h dy _ i = _
  rw [shapeCast_self, mm dot_S256x16_S256x6912_S16x6912_0_0_1_1_n_n 256 rfl rfl i (fun k => ix2 k (i 0)) (fun k => ix2 k (i 1))
    (fun q k h => funext fun a => Fin.ext (by match a with | ⟨0, _⟩ => exact h | ⟨1, _⟩ => rfl))
    (fun q k h => funext fun a => Fin.ext (by match a with | ⟨0, _⟩ => exact h | ⟨1, _⟩ => rfl))]
  show a i + two * (Ideal.ofBits .f32 0x00000000#32 + _) = _
  rw [Ideal.ofBits_zero_f32, zero_add]

end Cert.KernelIdeal.Hand

end

end
-- ==== Proof.RefDecode.lean ====
/- The reference's decoded matrices, element by element: the 4-bit code of the packed byte, looked up by the chain of
   selections, times the scale of its block of rows. -/
module

public import proofs.«01_k».proof.Proof.Gen.ReferenceIdeal.Read

@[expose] public section

noncomputable section

namespace Cert.ReferenceIdeal.Hand

open Cert.ReferenceIdeal Cert.ReferenceIdeal.Gen Cert.ReferenceIdeal.Read
open Idealize.ShloMosaic Idealize.ShloMosaic.ValueIdx Idealize.ShloMosaic.TcCoe

variable {F : FTy → Type} [FloatOps F]

/-- The bfloat16 word of a 4-bit code, by the reference's selections on the code's four bits. -/
def nf4 (n : BitVec 32) : BitVec 16 :=
  let b (k : BitVec 32) : BitVec 1 := IntOp.cmpi .ne (IntOp.andi n k) 0#32
  Scalar.select (b 8#32)
    (Scalar.select (b 4#32)
      (Scalar.select (b 2#32) (Scalar.select (b 1#32) 0x3F80#16 0x3F39#16) (Scalar.select (b 1#32) 0x3F10#16 0x3EE2#16))
      (Scalar.select (b 2#32) (Scalar.select (b 1#32) 0x3EAD#16 0x3E7C#16) (Scalar.select (b 1#32) 0x3E25#16 0x3DA3#16)))
    (Scalar.select (b 4#32)
      (Scalar.select (b 2#32) (Scalar.select (b 1#32) 0x0000#16 0xBDBA#16) (Scalar.select (b 1#32) 0xBE3D#16 0xBE92#16))
      (Scalar.select (b 2#32) (Scalar.select (b 1#32) 0xBECA#16 0xBF06#16) (Scalar.select (b 1#32) 0xBF32#16 0xBF80#16)))

/-- Choosing between two words' floats is the float of the chosen word. -/
theorem select_ofBits (b : BitVec 1) (x y : BitVec 16) :
    Scalar.select b (FloatOps.ofBits (F := F) .bf16 x) (FloatOps.ofBits .bf16 y) = FloatOps.ofBits .bf16 (Scalar.select b x y) := by
  unfold Scalar.select; split <;> rfl

variable (x1 : (⟨S1280x6912, .i8⟩ : BufTy).Contents (Elt F)) (x2 : (⟨S40x6912, .f32⟩ : BufTy).Contents (Elt F))

/-- The low code of every byte, decoded. -/
theorem lo_code (i : S1280x6912.Idx) :
    val_main_v33 (F := F) x1 i = FloatOps.ofBits .bf16 (nf4 (IntOp.andi ((x1 i).setWidth 32) 15#32)) := by
  simp only [val_main_v0_apply, val_main_c_apply, val_main_v1_apply, val_main_v2_apply, val_main_c_0_apply, val_main_v3_apply,
    val_main_v4_apply, val_main_c_1_apply, val_main_v5_apply, val_main_v6_apply, val_main_c_2_apply,
    val_main_v7_apply, val_main_v8_apply, val_main_c_3_apply, val_main_v9_apply, val_main_v10_apply,
    val_main_c_4_apply, val_main_v11_apply, val_main_v12_apply, val_main_c_5_apply, val_main_v13_apply,
    val_main_v14_apply, val_main_c_6_apply, val_main_v15_apply, val_main_v16_apply, val_main_c_7_apply,
    val_main_v17_apply, val_main_v18_apply, val_main_cst_apply, val_main_cst_8_apply, val_main_call0_v0_apply,
    val_main_call0_v1_apply, val_main_v19_apply, val_main_cst_9_apply, val_main_cst_10_apply,
    val_main_call1_v0_apply, val_main_call1_v1_apply, val_main_v20_apply, val_main_v21_apply, val_main_cst_11_apply,
    val_main_cst_12_apply, val_main_call3_v0_apply, val_main_call3_v1_apply, val_main_v22_apply,
    val_main_cst_13_apply, val_main_cst_14_apply, val_main_call4_v0_apply, val_main_call4_v1_apply,
    val_main_v23_apply, val_main_v24_apply, val_main_v25_apply, val_main_cst_15_apply, val_main_cst_16_apply,
    val_main_call7_v0_apply, val_main_call7_v1_apply, val_main_v26_apply, val_main_cst_17_apply,
    val_main_cst_18_apply, val_main_call8_v0_apply, val_main_call8_v1_apply, val_main_v27_apply, val_main_v28_apply,
    val_main_cst_19_apply, val_main_cst_20_apply, val_main_call10_v0_apply, val_main_call10_v1_apply,
    val_main_v29_apply, val_main_cst_21_apply, val_main_cst_22_apply, val_main_call11_v0_apply,
    val_main_call11_v1_apply, val_main_v30_apply, val_main_v31_apply, val_main_v32_apply, val_main_v33_apply]
  simp only [select_ofBits, nf4]

/-- The high code of every byte, decoded. -/
theorem hi_code (i : S1280x6912.Idx) :
    val_main_v72 (F := F) x1 i = FloatOps.ofBits .bf16 (nf4 (IntOp.shrsi .host ((x1 i).setWidth 32) 4#32)) := by
  simp only [val_main_v0_apply, val_main_c_23_apply, val_main_v40_apply, val_main_v41_apply, val_main_c_24_apply,
    val_main_v42_apply, val_main_v43_apply, val_main_c_25_apply, val_main_v44_apply, val_main_v45_apply,
    val_main_c_26_apply, val_main_v46_apply, val_main_v47_apply, val_main_c_27_apply, val_main_v48_apply,
    val_main_v49_apply, val_main_c_28_apply, val_main_v50_apply, val_main_v51_apply, val_main_c_29_apply,
    val_main_v52_apply, val_main_v53_apply, val_main_c_30_apply, val_main_v54_apply, val_main_v55_apply,
    val_main_c_31_apply, val_main_v56_apply, val_main_v57_apply, val_main_cst_32_apply, val_main_cst_33_apply,
    val_main_call15_v0_apply, val_main_call15_v1_apply, val_main_v58_apply, val_main_cst_34_apply,
    val_main_cst_35_apply, val_main_call16_v0_apply, val_main_call16_v1_apply, val_main_v59_apply,
    val_main_v60_apply, val_main_cst_36_apply, val_main_cst_37_apply, val_main_call18_v0_apply,
    val_main_call18_v1_apply, val_main_v61_apply, val_main_cst_38_apply, val_main_cst_39_apply,
    val_main_call19_v0_apply, val_main_call19_v1_apply, val_main_v62_apply, val_main_v63_apply, val_main_v64_apply,
    val_main_cst_40_apply, val_main_cst_41_apply, val_main_call22_v0_apply, val_main_call22_v1_apply,
    val_main_v65_apply, val_main_cst_42_apply, val_main_cst_43_apply, val_main_call23_v0_apply,
    val_main_call23_v1_apply, val_main_v66_apply, val_main_v67_apply, val_main_cst_44_apply, val_main_cst_45_apply,
    val_main_call25_v0_apply, val_main_call25_v1_apply, val_main_v68_apply, val_main_cst_46_apply,
    val_main_cst_47_apply, val_main_call26_v0_apply, val_main_call26_v1_apply, val_main_v69_apply,
    val_main_v70_apply, val_main_v71_apply, val_main_v72_apply]
  simp only [select_ofBits, nf4]

/-- The scale's row of a packed row. -/
def scRow (i : S1280x6912.Idx) : S40x6912.Idx := ix2 ⟨(i 0).val / 32, by have : (i 0).val < 1280 := (i 0).isLt; omega⟩ (i 1)

theorem lo_elt (i : S1280x6912.Idx) : val_main_v39 (F := F) x1 x2 i
    = FloatOps.mulf (FloatOps.ofBits .bf16 (nf4 (IntOp.andi ((x1 i).setWidth 32) 15#32)))
        (FloatOps.truncf .bf16 bitsLt_bf16_f32 (x2 (scRow i))) := by
  have h0 : (i 0).val < 1280 := (i 0).isLt
  have h1 : (i 1).val < 6912 := (i 1).isLt
  rw [val_main_v39_apply, val_main_v38_apply, val_main_v34_apply, val_main_v37_apply, val_main_v36_apply, val_main_v35_apply, lo_code]
  rw [show idx_main_v34 (idx_main_v39 i) = i from funext fun a => Fin.ext (by
      match a with
      | ⟨0, _⟩ => show ((((i 0).val * 6912 + (i 1).val) / 221184 * 32 + ((i 0).val * 6912 + (i 1).val) / 6912 % 32) * 6912 + ((i 0).val * 6912 + (i 1).val) % 6912) / 6912 = (i 0).val; omega
      | ⟨1, _⟩ => show ((((i 0).val * 6912 + (i 1).val) / 221184 * 32 + ((i 0).val * 6912 + (i 1).val) / 6912 % 32) * 6912 + ((i 0).val * 6912 + (i 1).val) % 6912) % 6912 = (i 1).val; omega),
    show idx_main_v36 (idx_main_v37 (idx_main_v39 i)) = scRow i from funext fun a => Fin.ext (by
      match a with
      | ⟨0, _⟩ => show ((i 0).val * 6912 + (i 1).val) / 221184 = (i 0).val / 32; omega
      | ⟨1, _⟩ => show ((i 0).val * 6912 + (i 1).val) % 6912 = (i 1).val; omega)]

theorem hi_elt (i : S1280x6912.Idx) : val_main_v78 (F := F) x1 x2 i
    = FloatOps.mulf (FloatOps.ofBits .bf16 (nf4 (IntOp.shrsi .host ((x1 i).setWidth 32) 4#32)))
        (FloatOps.truncf .bf16 bitsLt_bf16_f32 (x2 (scRow i))) := by
  have h0 : (i 0).val < 1280 := (i 0).isLt
  have h1 : (i 1).val < 6912 := (i 1).isLt
  rw [val_main_v78_apply, val_main_v77_apply, val_main_v73_apply, val_main_v76_apply, val_main_v75_apply, val_main_v74_apply, hi_code]
  rw [show idx_main_v73 (idx_main_v78 i) = i from funext fun a => Fin.ext (by
      match a with
      | ⟨0, _⟩ => show ((((i 0).val * 6912 + (i 1).val) / 221184 * 32 + ((i 0).val * 6912 + (i 1).val) / 6912 % 32) * 6912 + ((i 0).val * 6912 + (i 1).val) % 6912) / 6912 = (i 0).val; omega
      | ⟨1, _⟩ => show ((((i 0).val * 6912 + (i 1).val) / 221184 * 32 + ((i 0).val * 6912 + (i 1).val) / 6912 % 32) * 6912 + ((i 0).val * 6912 + (i 1).val) % 6912) % 6912 = (i 1).val; omega),
    show idx_main_v75 (idx_main_v76 (idx_main_v78 i)) = scRow i from funext fun a => Fin.ext (by
      match a with
      | ⟨0, _⟩ => show ((i 0).val * 6912 + (i 1).val) / 221184 = (i 0).val / 32; omega
      | ⟨1, _⟩ => show ((i 0).val * 6912 + (i 1).val) % 6912 = (i 1).val; omega)]

end Cert.ReferenceIdeal.Hand

end

end
-- ==== Proof.RefElts.lean ====
/- The reference's five results over the extended reals, element by element, as finite sums over its arguments. -/
module

public import proofs.«01_k».proof.Proof.RefDecode
public import Idealize.ShloMosaic.Lib.TwoAxisContraction

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.ValueIdx Idealize.ShloMosaic.TcCoe

/-- Row `q` of the 12288 token rows, at column `k`, in an array with the rows as (batch, position). -/
abbrev row3 {D : ℕ} (q : ℕ) (k : Fin D) : (⟨3, ![24, 512, D]⟩ : Shape).Idx :=
  ix3 ⟨q / 512 % 24, Nat.mod_lt _ (by decide)⟩ ⟨q % 512, Nat.mod_lt _ (by decide)⟩ k

variable (x0 : (⟨S24x512x2560, .bf16⟩ : BufTy).Contents (Elt Ideal)) (x1 : (⟨S1280x6912, .i8⟩ : BufTy).Contents (Elt Ideal))
  (x2 : (⟨S40x6912, .f32⟩ : BufTy).Contents (Elt Ideal)) (x3 : (⟨S2560x16, .bf16⟩ : BufTy).Contents (Elt Ideal))
  (x4 : (⟨S16x6912, .bf16⟩ : BufTy).Contents (Elt Ideal)) (x5 : (⟨S24x512x6912, .bf16⟩ : BufTy).Contents (Elt Ideal))

/-- g at a token row and a rank. -/
def gAt (q : ℕ) (r : Fin 16) : EReal := ∑ k : Fin 6912, x5 (row3 q k) * x4 (ix2 r k)
/-- h at a token row and a rank. -/
def hAt (q : ℕ) (r : Fin 16) : EReal := ∑ k : Fin 2560, x0 (row3 q k) * x3 (ix2 k r)
/-- The decoded weight of input row `d`, output column `k`: even rows from the low codes, odd rows from the high ones. -/
def wAt (d : Fin 2560) (k : Fin 6912) : EReal :=
  if d.val % 2 = 0 then val_main_v39 (F := Ideal) x1 x2 (ix2 ⟨d.val / 2, by have := d.isLt; omega⟩ k)
  else val_main_v78 (F := Ideal) x1 x2 (ix2 ⟨d.val / 2, by have := d.isLt; omega⟩ k)

theorem g3 (q : ℕ) (r : Fin 16) : val_main_v86 (F := Ideal) x4 x5 (row3 q r) = gAt x4 x5 q r := by
  rw [val_main_v86_apply]
  refine (val_main_v85_apply x4 x5 (row3 q r)).trans (Finset.sum_congr rfl fun k _ => ?_)
  exact congrArg₂ (· * ·) (congrArg x5 (eq_ix3 _)) (congrArg x4 (eq_ix2 _))
theorem h3 (q : ℕ) (r : Fin 16) : val_main_v93 (F := Ideal) x0 x3 (row3 q r) = hAt x0 x3 q r := by
  rw [val_main_v93_apply]
  refine (val_main_v92_apply x0 x3 (row3 q r)).trans (Finset.sum_congr rfl fun k _ => ?_)
  exact congrArg₂ (· * ·) (congrArg x0 (eq_ix3 _)) (congrArg x3 (eq_ix2 _))

/-- The fourth result. -/
theorem v101_elt (q : Fin 12288) (r : Fin 16) : val_main_v101 (F := Ideal) x4 x5 (ix2 q r) = gAt x4 x5 q.val r := by
  have h0 : q.val < 12288 := q.isLt
  have h1 : r.val < 16 := r.isLt
  rw [val_main_v101_apply, ← g3]
  refine congrArg _ (funext fun a => Fin.ext ?_)
  match a with
  | ⟨0, _⟩ => show (q.val * 16 + r.val) / 8192 = q.val / 512 % 24; omega
  | ⟨1, _⟩ => show (q.val * 16 + r.val) / 16 % 512 = q.val % 512; omega
  | ⟨2, _⟩ => show (q.val * 16 + r.val) % 16 = r.val; omega
/-- The fifth result. -/
theorem v102_elt (q : Fin 12288) (r : Fin 16) : val_main_v102 (F := Ideal) x0 x3 (ix2 q r) = hAt x0 x3 q.val r := by
  have h0 : q.val < 12288 := q.isLt
  have h1 : r.val < 16 := r.isLt
  rw [val_main_v102_apply, ← h3]
  refine congrArg _ (funext fun a => Fin.ext ?_)
  match a with
  | ⟨0, _⟩ => show (q.val * 16 + r.val) / 8192 = q.val / 512 % 24; omega
  | ⟨1, _⟩ => show (q.val * 16 + r.val) / 16 % 512 = q.val % 512; omega
  | ⟨2, _⟩ => show (q.val * 16 + r.val) % 16 = r.val; omega

/-- The even and the odd columns of the first result's main product, side by side on a last axis of two. -/
theorem v83_elt (b : Fin 24) (s : Fin 512) (e : Fin 1280) (p : Fin 2) : val_main_v83 (F := Ideal) x1 x2 x5 (ix4 b s e p)
    = if p.val = 0 then ∑ k : Fin 6912, x5 (ix3 b s k) * val_main_v39 (F := Ideal) x1 x2 (ix2 e k)
      else ∑ k : Fin 6912, x5 (ix3 b s k) * val_main_v78 (F := Ideal) x1 x2 (ix2 e k) := by
  unfold val_main_v83
  by_cases hp : p.val = 0
  · rw [if_pos hp, concatenate_pair_apply_left (t := S24x512x1280x2) (s₁ := S24x512x1280x1) (s₂ := S24x512x1280x1) 3 _ _ _ (ix4 b s e p) rfl (ix4 b s e 0) (fun a => by
        match a with | ⟨0, _⟩ => rfl | ⟨1, _⟩ => rfl | ⟨2, _⟩ => rfl | ⟨3, _⟩ => exact hp.symm), val_main_v81_apply]
    refine (val_main_v79_apply x1 x2 x5 _).trans (Finset.sum_congr rfl fun k _ => ?_)
    exact congrArg₂ (· * ·) (congrArg x5 (eq_ix3 _)) (congrArg (val_main_v39 (F := Ideal) x1 x2) (eq_ix2 _))
  · have hp1 : p.val = 1 := by have := p.isLt; omega
    rw [if_neg hp, concatenate_pair_apply_right (t := S24x512x1280x2) (s₁ := S24x512x1280x1) (s₂ := S24x512x1280x1) 3 _ _ _ (ix4 b s e p) rfl rfl (ix4 b s e 0) (fun a ha => by
        match a with | ⟨0, _⟩ => rfl | ⟨1, _⟩ => rfl | ⟨2, _⟩ => rfl | ⟨3, _⟩ => exact absurd rfl ha) (by show 0 + 1 = p.val; omega),
      val_main_v82_apply]
    refine (val_main_v80_apply x1 x2 x5 _).trans (Finset.sum_congr rfl fun k _ => ?_)
    exact congrArg₂ (· * ·) (congrArg x5 (eq_ix3 _)) (congrArg (val_main_v78 (F := Ideal) x1 x2) (eq_ix2 _))

/-- The main product, its columns interleaved. -/
theorem v84_elt (q : ℕ) (d : Fin 2560) : val_main_v84 (F := Ideal) x1 x2 x5 (row3 q d)
    = ∑ k : Fin 6912, x5 (row3 q k) * wAt x1 x2 d k := by
  have hd : d.val < 2560 := d.isLt
  rw [val_main_v84_apply]
  have hq : q / 512 % 24 < 24 := Nat.mod_lt _ (by decide)
  have hs : q % 512 < 512 := Nat.mod_lt _ (by decide)
  rw [show idx_main_v84 (row3 q d) = ix4 ⟨q / 512 % 24, hq⟩ ⟨q % 512, hs⟩ ⟨d.val / 2, by omega⟩ ⟨d.val % 2, by omega⟩ from
    funext fun a => Fin.ext (by
      match a with
      | ⟨0, _⟩ => show ((q / 512 % 24 * 512 + q % 512) * 2560 + d.val) / 1310720 = q / 512 % 24; omega
      | ⟨1, _⟩ => show ((q / 512 % 24 * 512 + q % 512) * 2560 + d.val) / 2560 % 512 = q % 512; omega
      | ⟨2, _⟩ => show ((q / 512 % 24 * 512 + q % 512) * 2560 + d.val) / 2 % 1280 = d.val / 2; omega
      | ⟨3, _⟩ => show ((q / 512 % 24 * 512 + q % 512) * 2560 + d.val) % 2 = d.val % 2; omega), v83_elt]
  unfold wAt
  by_cases h : d.val % 2 = 0
  · rw [if_pos h]; simp only [if_pos h]
  · rw [if_neg h]; simp only [if_neg h]

/-- The first result. -/
theorem v100_elt (q : Fin 12288) (d : Fin 2560) : val_main_v100 (F := Ideal) x1 x2 x3 x4 x5 (ix2 q d)
    = (∑ k : Fin 6912, x5 (row3 q.val k) * wAt x1 x2 d k)
      + Ideal.ofBits .f32 0x40000000#32 * ∑ r : Fin 16, gAt x4 x5 q.val r * x3 (ix2 d r) := by
  have h0 : q.val < 12288 := q.isLt
  have h1 : d.val < 2560 := d.isLt
  rw [val_main_v100_apply, show idx_main_v100 (ix2 q d) = row3 q.val d from funext fun a => Fin.ext (by
    match a with
    | ⟨0, _⟩ => show (q.val * 2560 + d.val) / 1310720 = q.val / 512 % 24; omega
    | ⟨1, _⟩ => show (q.val * 2560 + d.val) / 2560 % 512 = q.val % 512; omega
    | ⟨2, _⟩ => show (q.val * 2560 + d.val) % 2560 = d.val; omega),
    val_main_v91_apply, val_main_v90_apply, v84_elt, val_main_v89_apply, val_main_v88_apply, val_main_cst_48_apply]
  show _ + Ideal.ofBits .f32 0x40000000#32 * val_main_v87 (F := Ideal) x3 x4 x5 (row3 q.val d) = _
  refine congrArg (_ + Ideal.ofBits .f32 0x40000000#32 * ·) ((val_main_v87_apply x3 x4 x5 _).trans (Finset.sum_congr rfl fun r _ => ?_))
  rw [← g3]
  exact congrArg₂ (· * ·) (congrArg (val_main_v86 (F := Ideal) x4 x5) (eq_ix3 _)) (congrArg x3 (eq_ix2 _))

/-- A product that contracts the batch and the position axes of both operands: a double sum. -/
theorem mm2 {sl sr so : Shape} (D : DotDims sl sr so) (hr : D.contr.rank = 2) (h0 : D.contr.size ⟨0, by omega⟩ = 24)
    (h1 : D.contr.size ⟨1, by omega⟩ = 512) (i : so.Idx) (L : Fin 24 → Fin 512 → sl.Idx) (R : Fin 24 → Fin 512 → sr.Idx)
    (hL : ∀ (q : D.contr.Idx) (b : Fin 24) (s : Fin 512), (q ⟨0, by omega⟩ : ℕ) = b.val → (q ⟨1, by omega⟩ : ℕ) = s.val → D.lhsIdx i q = L b s)
    (hR : ∀ (q : D.contr.Idx) (b : Fin 24) (s : Fin 512), (q ⟨0, by omega⟩ : ℕ) = b.val → (q ⟨1, by omega⟩ : ℕ) = s.val → D.rhsIdx i q = R b s)
    {φ₁ φ₂ : FTy} (lhs : FVec Ideal sl φ₁) (rhs : FVec Ideal sr φ₂) :
    (Host.dotGeneral D none lhs rhs : FVec Ideal so .f32) i = ∑ b : Fin 24, ∑ s : Fin 512, (lhs (L b s) : EReal) * rhs (R b s) := by
  simp only [Host.dotGeneral]
  rw [Ideal.dotGeneral_apply, sum_contr2 D 24 512 hr h0 h1]
  refine Finset.sum_congr rfl fun b _ => Finset.sum_congr rfl fun s _ => ?_
  rw [hL _ b s (contrEquiv2_symm_val0 D 24 512 hr h0 h1 (b, s)) (contrEquiv2_symm_val1 D 24 512 hr h0 h1 (b, s)),
    hR _ b s (contrEquiv2_symm_val0 D 24 512 hr h0 h1 (b, s)) (contrEquiv2_symm_val1 D 24 512 hr h0 h1 (b, s))]

/-- A sum over rows, in blocks. -/
theorem sum_blocks (f : ℕ → EReal) (A B : ℕ) : ∑ a : Fin A, ∑ b : Fin B, f (B * a.val + b.val) = ∑ n ∈ Finset.range (B * A), f n := by
  rw [Fin.sum_univ_eq_sum_range (fun a => ∑ b : Fin B, f (B * a + b.val)) A]
  induction A with
  | zero => simp
  | succ A ih =>
    rw [Finset.sum_range_succ, ih, Nat.mul_succ, Finset.sum_range_add, Fin.sum_univ_eq_sum_range (fun b => f (B * A + b)) B]

/-- The sum over (batch, position) is the sum over the token rows. -/
theorem sum_rows {D E : ℕ} (u : (⟨3, ![24, 512, D]⟩ : Shape).Idx → EReal) (v : (⟨3, ![24, 512, E]⟩ : Shape).Idx → EReal) (d : Fin D) (e : Fin E) :
    ∑ b : Fin 24, ∑ s : Fin 512, u (ix3 b s d) * v (ix3 b s e) = ∑ n ∈ Finset.range 12288, u (row3 n d) * v (row3 n e) := by
  rw [← sum_blocks (fun n => u (row3 n d) * v (row3 n e)) 24 512]
  refine Finset.sum_congr rfl fun b _ => Finset.sum_congr rfl fun s _ => ?_
  have hb : b.val < 24 := b.isLt
  have hs : s.val < 512 := s.isLt
  have e0 : (⟨(512 * b.val + s.val) / 512 % 24, Nat.mod_lt _ (by decide)⟩ : Fin 24) = b := Fin.ext (by show (512 * b.val + s.val) / 512 % 24 = b.val; omega)
  have e1 : (⟨(512 * b.val + s.val) % 512, Nat.mod_lt _ (by decide)⟩ : Fin 512) = s := Fin.ext (by show (512 * b.val + s.val) % 512 = s.val; omega)
  simp only [row3, e0, e1]

/-- The second result. -/
theorem v99_elt (d : Fin 2560) (r : Fin 16) : val_main_v99 (F := Ideal) x0 x4 x5 (ix2 d r)
    = Ideal.ofBits .f32 0x40000000#32 * ∑ n ∈ Finset.range 12288, x0 (row3 n d) * gAt x4 x5 n r := by
  rw [val_main_v99_apply, val_main_v98_apply, val_main_cst_50_apply]
  show Ideal.ofBits .f32 0x40000000#32 * val_main_v97 (F := Ideal) x0 x4 x5 (ix2 d r) = _
  unfold val_main_v97
  rw [mm2 dot_S24x512x2560_S24x512x16_S2560x16_01_01_2_2_n_n rfl rfl rfl (ix2 d r) (fun b s => ix3 b s d) (fun b s => ix3 b s r)
    (fun q b s hb hs => funext fun a => Fin.ext (by match a with | ⟨0, _⟩ => exact hb | ⟨1, _⟩ => exact hs | ⟨2, _⟩ => rfl))
    (fun q b s hb hs => funext fun a => Fin.ext (by match a with | ⟨0, _⟩ => exact hb | ⟨1, _⟩ => exact hs | ⟨2, _⟩ => rfl))]
  refine congrArg (Ideal.ofBits .f32 0x40000000#32 * ·) ((sum_rows x0 (val_main_v86 (F := Ideal) x4 x5) d r).trans
    (Finset.sum_congr rfl fun n _ => ?_))
  rw [g3]

/-- The third result. -/
theorem v96_elt (r : Fin 16) (k : Fin 6912) : val_main_v96 (F := Ideal) x0 x3 x5 (ix2 r k)
    = Ideal.ofBits .f32 0x40000000#32 * ∑ n ∈ Finset.range 12288, hAt x0 x3 n r * x5 (row3 n k) := by
  rw [val_main_v96_apply, val_main_v95_apply, val_main_cst_49_apply]
  show Ideal.ofBits .f32 0x40000000#32 * val_main_v94 (F := Ideal) x0 x3 x5 (ix2 r k) = _
  unfold val_main_v94
  rw [mm2 dot_S24x512x16_S24x512x6912_S16x6912_01_01_2_2_n_n rfl rfl rfl (ix2 r k) (fun b s => ix3 b s r) (fun b s => ix3 b s k)
    (fun q b s hb hs => funext fun a => Fin.ext (by match a with | ⟨0, _⟩ => exact hb | ⟨1, _⟩ => exact hs | ⟨2, _⟩ => rfl))
    (fun q b s hb hs => funext fun a => Fin.ext (by match a with | ⟨0, _⟩ => exact hb | ⟨1, _⟩ => exact hs | ⟨2, _⟩ => rfl))]
  refine congrArg (Ideal.ofBits .f32 0x40000000#32 * ·) ((sum_rows (val_main_v93 (F := Ideal) x0 x3) x5 r k).trans
    (Finset.sum_congr rfl fun n _ => ?_))
  rw [h3]

end Cert.ReferenceIdeal.Hand

end

end
-- ==== Proof.Blocks.lean ====
/- The blocks the kernel's body reads at a grid point, as elements of the arguments, and the weight matrix it decodes. -/
module

public import proofs.«01_k».proof.Proof.Region
public import proofs.«01_k».proof.Proof.Products
public import proofs.«01_k».proof.Proof.RefElts

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Cert.ReferenceIdeal.Hand (row3 nf4 gAt hAt wAt scRow lo_elt hi_elt)

variable (m : (ℓ : Loc nD τ sig) → Buf (Elt Ideal) ℓ) (c : Dev nD)

/-- The arguments. -/
abbrev a0 : (⟨S24x512x2560, .bf16⟩ : BufTy).Contents (Elt Ideal) := m ((c : Thread nD τ).loc main_arg0)
abbrev a1 : (⟨S1280x6912, .i8⟩ : BufTy).Contents (Elt Ideal) := m ((c : Thread nD τ).loc main_arg1)
abbrev a2 : (⟨S40x6912, .f32⟩ : BufTy).Contents (Elt Ideal) := m ((c : Thread nD τ).loc main_arg2)
abbrev a3 : (⟨S2560x16, .bf16⟩ : BufTy).Contents (Elt Ideal) := m ((c : Thread nD τ).loc main_arg3)
abbrev a4 : (⟨S16x6912, .bf16⟩ : BufTy).Contents (Elt Ideal) := m ((c : Thread nD τ).loc main_arg4)
abbrev a5 : (⟨S24x512x6912, .bf16⟩ : BufTy).Contents (Elt Ideal) := m ((c : Thread nD τ).loc main_arg5)

/-! ### What the host wrote before the kernel -/

theorem V_main_v0 : V m c main_v0 = shapeCast S12288x2560 (a0 m c) shapeCasts_S24x512x2560_S12288x2560 := by
  show StableHlo.after hostOps0 _ (Proc.devRef .tc main_v0) = _
  after_results
  rfl
theorem V_main_v1 : V m c main_v1 = shapeCast S12288x6912 (a5 m c) shapeCasts_S24x512x6912_S12288x6912 := by
  show StableHlo.after hostOps0 _ (Proc.devRef .tc main_v1) = _
  after_results
  rfl
theorem V_main_c : V m c main_c = fun i => lit0 (S2x128.rowMajor i) := by
  show StableHlo.after hostOps0 _ (Proc.devRef .tc main_c) = _
  after_results
  rfl

/-! ### The windows' blocks -/

theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel

theorem xB_elt (t : Fin cfg0.N) (k : Fin 256) (d : Fin 2560) :
    xB m c t (ix2 k d) = a0 m c (row3 (256 * t.val + k.val) d) := by
  have ht : t.val < 48 := t.isLt
  have hk : k.val < 256 := k.isLt
  have hd : d.val < 2560 := d.isLt
  unfold xB iblk
  rw [View.read_apply]
  show V m c main_v0 _ = _
  rw [V_main_v0]
  refine shapeCast_apply _ _ _ _ ((Shape.rowMajor_val_three (d := ![24, 512, 2560]) _).trans ((Eq.symm ?_).trans (Shape.rowMajor_val_two (d := ![12288, 2560]) _).symm))
  symm
  show ((256 * t.val + k.val) / 512 % 24 * 512 + (256 * t.val + k.val) % 512) * 2560 + d.val
    = (win0_4.index t 0 * 256 + 1 * k.val) * 2560 + (win0_4.index t 1 * 2560 + 1 * d.val)
  rw [(idx4 t).1, (idx4 t).2]; omega

theorem dyB_elt (t : Fin cfg0.N) (k : Fin 256) (o : Fin 6912) :
    dyB m c t (ix2 k o) = a5 m c (row3 (256 * t.val + k.val) o) := by
  have ht : t.val < 48 := t.isLt
  have hk : k.val < 256 := k.isLt
  have ho : o.val < 6912 := o.isLt
  unfold dyB iblk
  rw [View.read_apply]
  show V m c main_v1 _ = _
  rw [V_main_v1]
  refine shapeCast_apply _ _ _ _ ((Shape.rowMajor_val_three (d := ![24, 512, 6912]) _).trans ((Eq.symm ?_).trans (Shape.rowMajor_val_two (d := ![12288, 6912]) _).symm))
  symm
  show ((256 * t.val + k.val) / 512 % 24 * 512 + (256 * t.val + k.val) % 512) * 6912 + o.val
    = (win0_5.index t 0 * 256 + 1 * k.val) * 6912 + (win0_5.index t 1 * 6912 + 1 * o.val)
  rw [(idx5 t).1, (idx5 t).2]; omega

theorem laB_eq (t : Fin cfg0.N) : laB m c t = a3 m c := by
  funext j
  unfold laB iblk
  rw [View.read_apply]
  show V m c main_arg3 _ = _
  rw [V_main_arg3]
  refine congrArg _ (funext fun a => Fin.ext ?_)
  match a with
  | ⟨0, _⟩ => show win0_2.index t 0 * 2560 + 1 * (j 0).val = (j 0).val; rw [(idx2 t).1]; omega
  | ⟨1, _⟩ => show win0_2.index t 1 * 16 + 1 * (j 1).val = (j 1).val; rw [(idx2 t).2]; omega
theorem lbB_eq (t : Fin cfg0.N) : lbB m c t = a4 m c := by
  funext j
  unfold lbB iblk
  rw [View.read_apply]
  show V m c main_arg4 _ = _
  rw [V_main_arg4]
  refine congrArg _ (funext fun a => Fin.ext ?_)
  match a with
  | ⟨0, _⟩ => show win0_3.index t 0 * 16 + 1 * (j 0).val = (j 0).val; rw [(idx3 t).1]; omega
  | ⟨1, _⟩ => show win0_3.index t 1 * 6912 + 1 * (j 1).val = (j 1).val; rw [(idx3 t).2]; omega
theorem amB_eq (t : Fin cfg0.N) : (iblk m c 1 t : Vec Ideal S40x6912 .f32) = a2 m c := by
  funext j
  unfold iblk
  rw [View.read_apply]
  show V m c main_arg2 _ = _
  rw [V_main_arg2]
  refine congrArg _ (funext fun a => Fin.ext ?_)
  match a with
  | ⟨0, _⟩ => show win0_1.index t 0 * 40 + 1 * (j 0).val = (j 0).val; rw [(idx1 t).1]; omega
  | ⟨1, _⟩ => show win0_1.index t 1 * 6912 + 1 * (j 1).val = (j 1).val; rw [(idx1 t).2]; omega
theorem tabB_eq (t : Fin cfg0.N) : (iblk m c 0 t : Vec Ideal S2x128 .i32) = fun i => lit0 (S2x128.rowMajor i) := by
  rw [← V_main_c m c]
  funext j
  unfold iblk
  rw [View.read_apply]
  show V m c main_c _ = _
  refine congrArg _ (funext fun a => Fin.ext ?_)
  match a with
  | ⟨0, _⟩ => show win0_0.index t 0 * 2 + 1 * (j 0).val = (j 0).val; rw [(idx0 t).1]; omega
  | ⟨1, _⟩ => show win0_0.index t 1 * 128 + 1 * (j 1).val = (j 1).val; rw [(idx0 t).2]; omega
theorem codes_read : (hbM.view.read (Elt Ideal) (V m c main_arg1) : Vec Ideal S1280x6912 .i8) = a1 m c := by
  rw [V_main_arg1]; rfl

/-! ### The table -/

/-- Row `r` of the table the host writes. -/
theorem tabRow_lit (r : Fin 2) : tabRow (fun i => lit0 (S2x128.rowMajor i)) r
    = fun n : Fin 128 => lit0 ⟨r.val * 128 + n.val, by have := r.isLt; have := n.isLt; omega⟩ := by
  funext n
  show lit0 _ = _
  exact congrArg lit0 (Fin.ext (by rw [Shape.rowMajor_val_two]; rfl))

/-- A byte's word holds the low code's value in its low half and the high code's in its high half. -/
theorem tword_lit : ∀ b : BitVec 8,
    (tword (fun n : Fin 128 => lit0 ⟨0 * 128 + n.val, by have := n.isLt; omega⟩) (fun n : Fin 128 => lit0 ⟨1 * 128 + n.val, by have := n.isLt; omega⟩) b).extractLsb' 0 16
      = nf4 (IntOp.andi (b.setWidth 32) 15#32)
    ∧ (tword (fun n : Fin 128 => lit0 ⟨0 * 128 + n.val, by have := n.isLt; omega⟩) (fun n : Fin 128 => lit0 ⟨1 * 128 + n.val, by have := n.isLt; omega⟩) b).extractLsb' 16 16
      = nf4 (IntOp.shrsi .host (b.setWidth 32) 4#32) := by
  have h : ∀ n : Fin 256,
    (tword (fun n : Fin 128 => lit0 ⟨0 * 128 + n.val, by have := n.isLt; omega⟩) (fun n : Fin 128 => lit0 ⟨1 * 128 + n.val, by have := n.isLt; omega⟩) (BitVec.ofFin n)).extractLsb' 0 16
      = nf4 (IntOp.andi ((BitVec.ofFin n : BitVec 8).setWidth 32) 15#32)
    ∧ (tword (fun n : Fin 128 => lit0 ⟨0 * 128 + n.val, by have := n.isLt; omega⟩) (fun n : Fin 128 => lit0 ⟨1 * 128 + n.val, by have := n.isLt; omega⟩) (BitVec.ofFin n)).extractLsb' 16 16
      = nf4 (IntOp.shrsi .host ((BitVec.ofFin n : BitVec 8).setWidth 32) 4#32) := by decide +kernel
  intro b; exact h b.toFin

/-- The decoded matrix is the one the reference decodes. -/
theorem Wm_elt (d : Fin 2560) (k : Fin 6912) : Wm m c (ix2 d k) = wAt (a1 m c) (a2 m c) d k := by
  have hd : d.val < 2560 := d.isLt
  unfold Wm wFull
  rw [tabB_eq, amB_eq, codes_read, tabRow_lit, tabRow_lit]
  have hs : scRow (ix2 (⟨d.val / 2, by omega⟩ : Fin 1280) k) = ix2 (⟨d.val / 64, by omega⟩ : Fin 40) k := by
    refine funext fun a => Fin.ext ?_
    match a with
    | ⟨0, _⟩ => show d.val / 2 / 32 = d.val / 64; omega
    | ⟨1, _⟩ => rfl
  unfold wElt wAt
  by_cases h : d.val % 2 = 0
  · rw [if_pos h, lo_elt, hs, ← (tword_lit _).1]
    show FloatOps.mulf (FloatOps.ofBits .bf16 (BitVec.extractLsb' (16 * (d.val % 2)) 16 _)) _ = _
    rw [h]; rfl
  · have h1 : d.val % 2 = 1 := by omega
    rw [if_neg h, hi_elt, hs, ← (tword_lit _).2]
    show FloatOps.mulf (FloatOps.ofBits .bf16 (BitVec.extractLsb' (16 * (d.val % 2)) 16 _)) _ = _
    rw [h1]; rfl

end Cert.KernelIdeal.Hand

end
-- ==== Proof.Values.lean ====
/- The kernel's five result arrays over the extended reals are the reference's five results of the same arguments. -/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.ReferenceIdeal.Hand (row3 gAt hAt wAt v100_elt v99_elt v96_elt v101_elt v102_elt sum_blocks)
open Cert.ReferenceIdeal.Read (val_main_v100 val_main_v99 val_main_v96 val_main_v101 val_main_v102)

variable (m : (ℓ : Loc nD τ sig) → Buf (Elt Ideal) ℓ) (c : Dev nD)

/-! ### What a point computes -/

theorem g_elt (t : Fin cfg0.N) (k : Fin 256) (r : Fin 16) :
    k0_pay90 (F := Ideal) (dyB m c t) (a4 m c) (ix2 k r) = gAt (a4 m c) (a5 m c) (256 * t.val + k.val) r := by
  rw [pay90_apply]
  exact Finset.sum_congr rfl fun o _ => congrArg (· * a4 m c (ix2 r o)) (dyB_elt m c t k o)
theorem h_elt (t : Fin cfg0.N) (k : Fin 256) (r : Fin 16) :
    k0_pay91 (F := Ideal) (xB m c t) (a3 m c) (ix2 k r) = hAt (a0 m c) (a3 m c) (256 * t.val + k.val) r := by
  rw [pay91_apply]
  exact Finset.sum_congr rfl fun d _ => congrArg (· * a3 m c (ix2 d r)) (xB_elt m c t k d)

theorem gB_elt (t : Fin cfg0.N) (k : Fin 256) (r : Fin 16) : gB m c t (ix2 k r) = gAt (a4 m c) (a5 m c) (256 * t.val + k.val) r := by
  unfold gB; rw [lbB_eq]; exact g_elt m c t k r
theorem hB_elt (t : Fin cfg0.N) (k : Fin 256) (r : Fin 16) : hB m c t (ix2 k r) = hAt (a0 m c) (a3 m c) (256 * t.val + k.val) r := by
  unfold hB; rw [laB_eq]; exact h_elt m c t k r
theorem dxB_elt (t : Fin cfg0.N) (k : Fin 256) (d : Fin 2560) : dxB m c t (ix2 k d)
    = (∑ o : Fin 6912, a5 m c (row3 (256 * t.val + k.val) o) * wAt (a1 m c) (a2 m c) d o)
      + two * ∑ r : Fin 16, gAt (a4 m c) (a5 m c) (256 * t.val + k.val) r * a3 m c (ix2 d r) := by
  unfold dxB; rw [lbB_eq, laB_eq, pay92_apply]
  refine congrArg₂ (· + ·) (Finset.sum_congr rfl fun o _ => ?_) (congrArg (two * ·) (Finset.sum_congr rfl fun r _ => ?_))
  · exact congrArg₂ (· * ·) (dyB_elt m c t k o) (Wm_elt m c d o)
  · exact congrArg (· * a3 m c (ix2 d r)) (g_elt m c t k r)

/-! ### The accumulators -/

theorem stepA_elt (t : Fin cfg0.N) (a : Vec Ideal S2560x16 .f32) (d : Fin 2560) (r : Fin 16) : stepA m c t a (ix2 d r)
    = a (ix2 d r) + two * ∑ k : Fin 256, a0 m c (row3 (256 * t.val + k.val) d) * gAt (a4 m c) (a5 m c) (256 * t.val + k.val) r := by
  unfold stepA; rw [lbB_eq, payA_apply]
  refine congrArg (a (ix2 d r) + two * ·) (Finset.sum_congr rfl fun k _ => ?_)
  exact congrArg₂ (· * ·) (xB_elt m c t k d) (g_elt m c t k r)
theorem stepB_elt (t : Fin cfg0.N) (a : Vec Ideal S16x6912 .f32) (r : Fin 16) (o : Fin 6912) : stepB m c t a (ix2 r o)
    = a (ix2 r o) + two * ∑ k : Fin 256, hAt (a0 m c) (a3 m c) (256 * t.val + k.val) r * a5 m c (row3 (256 * t.val + k.val) o) := by
  unfold stepB; rw [laB_eq, payB_apply]
  refine congrArg (a (ix2 r o) + two * ·) (Finset.sum_congr rfl fun k _ => ?_)
  exact congrArg₂ (· * ·) (h_elt m c t k r) (dyB_elt m c t k o)

/-- A point's term of the first accumulator, -/
def termA (d : Fin 2560) (r : Fin 16) (n : ℕ) : EReal := a0 m c (row3 n d) * gAt (a4 m c) (a5 m c) n r
/-- and of the second. -/
def termB (r : Fin 16) (o : Fin 6912) (n : ℕ) : EReal := hAt (a0 m c) (a3 m c) n r * a5 m c (row3 n o)

theorem pt_of {n : ℕ} (h : n < 48) : (pt n).val = n := Nat.mod_eq_of_lt h

theorem accA_elt (d : Fin 2560) (r : Fin 16) : ∀ n : ℕ, n < 48 → accA m c n (ix2 d r)
    = ∑ t ∈ Finset.range (n + 1), two * ∑ k : Fin 256, termA m c d r (256 * t + k.val)
  | 0, h => by
    show stepA m c (pt 0) (k0_pay86 (F := Ideal)) (ix2 d r) = _
    rw [stepA_elt, pt_of h, Finset.sum_range_one]
    rw [show k0_pay86 (F := Ideal) (ix2 d r) = (0 : EReal) from Ideal.ofBits_zero_f32, zero_add]
    rfl
  | n + 1, h => by
    show stepA m c (pt (n + 1)) (accA m c n) (ix2 d r) = _
    rw [stepA_elt, pt_of h, Finset.sum_range_succ, accA_elt d r n (by omega)]
    rfl
theorem accB_elt (r : Fin 16) (o : Fin 6912) : ∀ n : ℕ, n < 48 → accB m c n (ix2 r o)
    = ∑ t ∈ Finset.range (n + 1), two * ∑ k : Fin 256, termB m c r o (256 * t + k.val)
  | 0, h => by
    show stepB m c (pt 0) (k0_pay87 (F := Ideal)) (ix2 r o) = _
    rw [stepB_elt, pt_of h, Finset.sum_range_one]
    rw [show k0_pay87 (F := Ideal) (ix2 r o) = (0 : EReal) from Ideal.ofBits_zero_f32, zero_add]
    rfl
  | n + 1, h => by
    show stepB m c (pt (n + 1)) (accB m c n) (ix2 r o) = _
    rw [stepB_elt, pt_of h, Finset.sum_range_succ, accB_elt r o n (by omega)]
    rfl

/-- The points' sums, joined. -/
theorem join (f : ℕ → EReal) : ∑ t ∈ Finset.range (47 + 1), two * ∑ k : Fin 256, f (256 * t + k.val)
    = two * ∑ n ∈ Finset.range 12288, f n := by
  rw [← two_sum, ← Fin.sum_univ_eq_sum_range (fun t => ∑ k : Fin 256, f (256 * t + k.val))]
  exact congrArg (two * ·) (sum_blocks f 48 256)

/-! ### The arrays -/

abbrev res0 : Buf (Elt Ideal) ((c : Thread nD τ).loc main_v2_0) := val_main_v100 (F := Ideal) (a1 m c) (a2 m c) (a3 m c) (a4 m c) (a5 m c)
abbrev res1 : Buf (Elt Ideal) ((c : Thread nD τ).loc main_v2_1) := val_main_v99 (F := Ideal) (a0 m c) (a4 m c) (a5 m c)
abbrev res2 : Buf (Elt Ideal) ((c : Thread nD τ).loc main_v2_2) := val_main_v96 (F := Ideal) (a0 m c) (a3 m c) (a5 m c)
abbrev res3 : Buf (Elt Ideal) ((c : Thread nD τ).loc main_v2_3) := val_main_v101 (F := Ideal) (a4 m c) (a5 m c)
abbrev res4 : Buf (Elt Ideal) ((c : Thread nD τ).loc main_v2_4) := val_main_v102 (F := Ideal) (a0 m c) (a3 m c)

theorem idx6 : ∀ t : Fin cfg0.N, win0_6.index t 0 = t.val ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 := by decide +kernel

theorem arr6 : (dats m 0 c).arrAt 6 cfg0.N = res0 m c :=
  (dats m 0 c).arrAt_eq_of_cover 6 (res0 m c) (fun t _ => by
    have ht : t.val < 48 := t.isLt
    show (cfg0.win 6).cut (grid0.coords t) ((dats m 0 c).after 6 t) = _
    rw [after_6]
    funext j
    rw [View.read_apply]
    have h0 : (j 0).val < 256 := (j 0).isLt
    have h1 : (j 1).val < 2560 := (j 1).isLt
    show dxB m c t j = res0 m c (((cfg0.win 6).blk t).view.emb j)
    have ej : j = ix2 (⟨(j 0).val, h0⟩ : Fin 256) (⟨(j 1).val, h1⟩ : Fin 2560) := eq_ix2 j
    have ee : ((cfg0.win 6).blk t).view.emb j
        = (ix2 (⟨256 * t.val + (j 0).val, by omega⟩ : Fin 12288) (⟨(j 1).val, h1⟩ : Fin 2560) : S12288x2560.Idx) := by
      refine funext fun a => Fin.ext ?_
      match a with
      | ⟨0, _⟩ => show win0_6.index t 0 * 256 + 1 * (j 0).val = 256 * t.val + (j 0).val; rw [(idx6 t).1]; omega
      | ⟨1, _⟩ => show win0_6.index t 1 * 2560 + 1 * (j 1).val = (j 1).val; rw [(idx6 t).2]; omega
    rw [ee]
    refine (congrArg (dxB m c t) ej).trans ((dxB_elt m c t _ _).trans ?_)
    exact (v100_elt (a1 m c) (a2 m c) (a3 m c) (a4 m c) (a5 m c) (⟨256 * t.val + (j 0).val, by omega⟩ : Fin 12288) (⟨(j 1).val, h1⟩ : Fin 2560)).symm) fun i => by
    have i0 : (i 0).val < 12288 := (i 0).isLt
    have i1 : (i 1).val < 2560 := (i 1).isLt
    obtain ⟨t, ht⟩ : ∃ t : Fin cfg0.N, t.val = (i 0).val / 256 := ⟨⟨(i 0).val / 256, show (i 0).val / 256 < 48 by omega⟩, rfl⟩
    refine ⟨t, flush0_6 t, ?_⟩
    show i ∈ ((View.whole main_v2_0).slice (win0_6.rect t)).set
    rw [View.set_slice_whole, Rect.mem_set_unit]
    intro a
    match a with
    | ⟨0, _⟩ => show win0_6.index t 0 * 256 ≤ (i 0).val ∧ (i 0).val < win0_6.index t 0 * 256 + 256
                rw [(idx6 t).1]; omega
    | ⟨1, _⟩ => show win0_6.index t 1 * 2560 ≤ (i 1).val ∧ (i 1).val < win0_6.index t 1 * 2560 + 2560
                rw [(idx6 t).2]; omega

theorem arr9 : (dats m 0 c).arrAt 9 cfg0.N = res3 m c :=
  (dats m 0 c).arrAt_eq_of_cover 9 (res3 m c) (fun t _ => by
    have ht : t.val < 48 := t.isLt
    show (cfg0.win 9).cut (grid0.coords t) ((dats m 0 c).after 9 t) = _
    rw [after_9]
    funext j
    rw [View.read_apply]
    have h0 : (j 0).val < 256 := (j 0).isLt
    have h1 : (j 1).val < 16 := (j 1).isLt
    show gB m c t j = res3 m c (((cfg0.win 9).blk t).view.emb j)
    have ej : j = ix2 (⟨(j 0).val, h0⟩ : Fin 256) (⟨(j 1).val, h1⟩ : Fin 16) := eq_ix2 j
    have ee : ((cfg0.win 9).blk t).view.emb j
        = (ix2 (⟨256 * t.val + (j 0).val, by omega⟩ : Fin 12288) (⟨(j 1).val, h1⟩ : Fin 16) : S12288x16.Idx) := by
      refine funext fun a => Fin.ext ?_
      match a with
      | ⟨0, _⟩ => show win0_9.index t 0 * 256 + 1 * (j 0).val = 256 * t.val + (j 0).val; rw [(idx9 t).1]; omega
      | ⟨1, _⟩ => show win0_9.index t 1 * 16 + 1 * (j 1).val = (j 1).val; rw [(idx9 t).2]; omega
    rw [ee]
    refine (congrArg (gB m c t) ej).trans ((gB_elt m c t _ _).trans ?_)
    exact (v101_elt (a4 m c) (a5 m c) (⟨256 * t.val + (j 0).val, by omega⟩ : Fin 12288) (⟨(j 1).val, h1⟩ : Fin 16)).symm) fun i => by
    have i0 : (i 0).val < 12288 := (i 0).isLt
    have i1 : (i 1).val < 16 := (i 1).isLt
    obtain ⟨t, ht⟩ : ∃ t : Fin cfg0.N, t.val = (i 0).val / 256 := ⟨⟨(i 0).val / 256, show (i 0).val / 256 < 48 by omega⟩, rfl⟩
    refine ⟨t, flush0_9 t, ?_⟩
    show i ∈ ((View.whole main_v2_3).slice (win0_9.rect t)).set
    rw [View.set_slice_whole, Rect.mem_set_unit]
    intro a
    match a with
    | ⟨0, _⟩ => show win0_9.index t 0 * 256 ≤ (i 0).val ∧ (i 0).val < win0_9.index t 0 * 256 + 256
                rw [(idx9 t).1]; omega
    | ⟨1, _⟩ => show win0_9.index t 1 * 16 ≤ (i 1).val ∧ (i 1).val < win0_9.index t 1 * 16 + 16
                rw [(idx9 t).2]; omega

theorem arr10 : (dats m 0 c).arrAt 10 cfg0.N = res4 m c :=
  (dats m 0 c).arrAt_eq_of_cover 10 (res4 m c) (fun t _ => by
    have ht : t.val < 48 := t.isLt
    show (cfg0.win 10).cut (grid0.coords t) ((dats m 0 c).after 10 t) = _
    rw [after_10]
    funext j
    rw [View.read_apply]
    have h0 : (j 0).val < 256 := (j 0).isLt
    have h1 : (j 1).val < 16 := (j 1).isLt
    show hB m c t j = res4 m c (((cfg0.win 10).blk t).view.emb j)
    have ej : j = ix2 (⟨(j 0).val, h0⟩ : Fin 256) (⟨(j 1).val, h1⟩ : Fin 16) := eq_ix2 j
    have ee : ((cfg0.win 10).blk t).view.emb j
        = (ix2 (⟨256 * t.val + (j 0).val, by omega⟩ : Fin 12288) (⟨(j 1).val, h1⟩ : Fin 16) : S12288x16.Idx) := by
      refine funext fun a => Fin.ext ?_
      match a with
      | ⟨0, _⟩ => show win0_10.index t 0 * 256 + 1 * (j 0).val = 256 * t.val + (j 0).val; rw [(idx10 t).1]; omega
      | ⟨1, _⟩ => show win0_10.index t 1 * 16 + 1 * (j 1).val = (j 1).val; rw [(idx10 t).2]; omega
    rw [ee]
    refine (congrArg (hB m c t) ej).trans ((hB_elt m c t _ _).trans ?_)
    exact (v102_elt (a0 m c) (a3 m c) (⟨256 * t.val + (j 0).val, by omega⟩ : Fin 12288) (⟨(j 1).val, h1⟩ : Fin 16)).symm) fun i => by
    have i0 : (i 0).val < 12288 := (i 0).isLt
    have i1 : (i 1).val < 16 := (i 1).isLt
    obtain ⟨t, ht⟩ : ∃ t : Fin cfg0.N, t.val = (i 0).val / 256 := ⟨⟨(i 0).val / 256, show (i 0).val / 256 < 48 by omega⟩, rfl⟩
    refine ⟨t, flush0_10 t, ?_⟩
    show i ∈ ((View.whole main_v2_4).slice (win0_10.rect t)).set
    rw [View.set_slice_whole, Rect.mem_set_unit]
    intro a
    match a with
    | ⟨0, _⟩ => show win0_10.index t 0 * 256 ≤ (i 0).val ∧ (i 0).val < win0_10.index t 0 * 256 + 256
                rw [(idx10 t).1]; omega
    | ⟨1, _⟩ => show win0_10.index t 1 * 16 ≤ (i 1).val ∧ (i 1).val < win0_10.index t 1 * 16 + 16
                rw [(idx10 t).2]; omega

theorem accA_last : accA m c 47 = res1 m c := by
  funext j
  obtain ⟨x, y, rfl⟩ : ∃ (x : Fin 2560) (y : Fin 16), j = ix2 x y := ⟨j 0, j 1, eq_ix2 j⟩
  exact (accA_elt m c x y 47 (by decide)).trans ((join _).trans (v99_elt (a0 m c) (a4 m c) (a5 m c) x y).symm)

theorem arr7 : (dats m 0 c).arrAt 7 cfg0.N = res1 m c :=
  (dats m 0 c).arrAt_eq_of_cover 7 (res1 m c) (fun t hf => by
    have ht : t.val < 48 := t.isLt
    have h47 : t.val = 47 := by have := (flush0_7 t).mp hf; omega
    show (cfg0.win 7).cut (grid0.coords t) ((dats m 0 c).after 7 t) = _
    rw [after_7, show accA m c t.val = res1 m c from (congrArg (accA m c) h47).trans (accA_last m c)]
    funext j
    rw [View.read_apply]
    show res1 m c j = res1 m c (((cfg0.win 7).blk t).view.emb j)
    refine congrArg (res1 m c) (funext fun a => Fin.ext ?_)
    match a with
    | ⟨0, _⟩ => show (j 0).val = win0_7.index t 0 * 2560 + 1 * (j 0).val; rw [(idx7 t).1]; omega
    | ⟨1, _⟩ => show (j 1).val = win0_7.index t 1 * 16 + 1 * (j 1).val; rw [(idx7 t).2]; omega) fun i => by
    have i0 : (i 0).val < 2560 := (i 0).isLt
    have i1 : (i 1).val < 16 := (i 1).isLt
    obtain ⟨t, ht⟩ : ∃ t : Fin cfg0.N, t.val = 47 := ⟨⟨47, by decide⟩, rfl⟩
    refine ⟨t, (flush0_7 t).mpr (by rw [ht]), ?_⟩
    show i ∈ ((View.whole main_v2_1).slice (win0_7.rect t)).set
    rw [View.set_slice_whole, Rect.mem_set_unit]
    intro a
    match a with
    | ⟨0, _⟩ => show win0_7.index t 0 * 2560 ≤ (i 0).val ∧ (i 0).val < win0_7.index t 0 * 2560 + 2560
                rw [(idx7 t).1]; omega
    | ⟨1, _⟩ => show win0_7.index t 1 * 16 ≤ (i 1).val ∧ (i 1).val < win0_7.index t 1 * 16 + 16
                rw [(idx7 t).2]; omega

theorem accB_last : accB m c 47 = res2 m c := by
  funext j
  obtain ⟨x, y, rfl⟩ : ∃ (x : Fin 16) (y : Fin 6912), j = ix2 x y := ⟨j 0, j 1, eq_ix2 j⟩
  exact (accB_elt m c x y 47 (by decide)).trans ((join _).trans (v96_elt (a0 m c) (a3 m c) (a5 m c) x y).symm)

theorem arr8 : (dats m 0 c).arrAt 8 cfg0.N = res2 m c :=
  (dats m 0 c).arrAt_eq_of_cover 8 (res2 m c) (fun t hf => by
    have ht : t.val < 48 := t.isLt
    have h47 : t.val = 47 := by have := (flush0_8 t).mp hf; omega
    show (cfg0.win 8).cut (grid0.coords t) ((dats m 0 c).after 8 t) = _
    rw [after_8, show accB m c t.val = res2 m c from (congrArg (accB m c) h47).trans (accB_last m c)]
    funext j
    rw [View.read_apply]
    show res2 m c j = res2 m c (((cfg0.win 8).blk t).view.emb j)
    refine congrArg (res2 m c) (funext fun a => Fin.ext ?_)
    match a with
    | ⟨0, _⟩ => show (j 0).val = win0_8.index t 0 * 16 + 1 * (j 0).val; rw [(idx8 t).1]; omega
    | ⟨1, _⟩ => show (j 1).val = win0_8.index t 1 * 6912 + 1 * (j 1).val; rw [(idx8 t).2]; omega) fun i => by
    have i0 : (i 0).val < 16 := (i 0).isLt
    have i1 : (i 1).val < 6912 := (i 1).isLt
    obtain ⟨t, ht⟩ : ∃ t : Fin cfg0.N, t.val = 47 := ⟨⟨47, by decide⟩, rfl⟩
    refine ⟨t, (flush0_8 t).mpr (by rw [ht]), ?_⟩
    show i ∈ ((View.whole main_v2_2).slice (win0_8.rect t)).set
    rw [View.set_slice_whole, Rect.mem_set_unit]
    intro a
    match a with
    | ⟨0, _⟩ => show win0_8.index t 0 * 16 ≤ (i 0).val ∧ (i 0).val < win0_8.index t 0 * 16 + 16
                rw [(idx8 t).1]; omega
    | ⟨1, _⟩ => show win0_8.index t 1 * 6912 ≤ (i 1).val ∧ (i 1).val < win0_8.index t 1 * 6912 + 6912
                rw [(idx8 t).2]; omega

end Cert.KernelIdeal.Hand

end
-- ==== Proof.Bits.Decode.lean ====
module

public import proofs.«01_k».proof.Proof.Gen.Kernel.Skeleton
public import Idealize.ShloMosaic.Lib.BitcastPair
public import Idealize.ShloMosaic.Lib.ValueIdxCore

@[expose] public section

set_option maxRecDepth 16384

noncomputable section

/-! The decoded tile of sixteen weight rows by 128 columns, as one function of the table rows, the
    absmax tile and the packed tile, and its reading at an element. -/

namespace Cert.Kernel.Hand

open Cert.Kernel Cert.Kernel.Gen
open Idealize.ShloMosaic Idealize.ShloMosaic.ValueIdx

variable {F : FTy → Type} [FloatOps F]

/-- The 32-bit word of a packed byte: the low seven bits pick the entry, the top bit the half. -/
def tword (T0 T1 : Fin 128 → BitVec 32) (b : BitVec 8) : BitVec 32 :=
  Scalar.select (IntOp.cmpi .sge (b.setWidth 32) 128#32)
    (T1 ⟨(IntOp.andi (b.setWidth 32) 127#32).toNat % 128, Nat.mod_lt _ (by decide)⟩)
    (T0 ⟨(IntOp.andi (b.setWidth 32) 127#32).toNat % 128, Nat.mod_lt _ (by decide)⟩)

/-- One decoded weight: half `p` of the packed byte's word, read as a bf16, times the absmax. -/
def wElt (T0 T1 : Fin 128 → BitVec 32) (am : F .f32) (b : BitVec 8) (p : Nat) : F .bf16 :=
  FloatOps.mulf (FloatOps.ofBits .bf16 ((tword T0 T1 b).extractLsb' (16 * p) 16))
    (FloatOps.truncf .bf16 bitsLt_bf16_f32 am)

theorem slices_codes (s : Fin 4) : S32x128.Slices ![8 * s.val, 0] S8x128 := by revert s; decide +kernel
theorem slices_am (b : Fin 8) : S8x128.Slices ![b.val, 0] S1x128 := by revert b; decide +kernel

/-- Rows `8 s …` of the packed tile, decoded, times row `b` of the absmax tile. -/
def tile (v68 v71 : Vec F S1x128 .i32) (v81 : Vec F S8x128 .f32) (v89 : Vec F S32x128 .i8) (b : Fin 8) (s : Fin 4) : FVec F S16x128 .bf16 :=
  have v91 : IVec S8x128 32 := extractStridedSlice S8x128 ![8 * s.val, 0] (extui 32 v89 natLt_8_32) (slices_codes s)
  have v93 : IVec S8x128 32 := andi v91 (broadcast S8x128 127#32)
  have v95 : IVec S8x128 1 := cmpi .sge v91 (broadcast S8x128 128#32)
  have v97 : IVec S8x128 32 := shapeCast S8x128 (shapeCast S8x128x1 v93 shapeCasts_S8x128_S8x128x1) shapeCasts_S8x128x1_S8x128
  have v102 : IVec S8x128 32 := select v95 (dynamicGather 1 (k0_pay84 v71) v97) (dynamicGather 1 (k0_pay83 v68) v97)
  have v103 : FVec F S16x128 .bf16 := bitcastToFloat .bf16 (bitcast S16x128 16 v102 bitcasts_S8x128_w32_S16x128_w16)
  have v85 : FVec F S16x128 .bf16 := broadcastTo S16x128 (shapeCast S1x128 (extractStridedSlice S1x128 ![b.val, 0]
    (truncf .bf16 v81 bitsLt_bf16_f32) (slices_am b)) shapeCasts_S1x128_S1x128) broadcasts_S1x128_S16x128
  shapeCast S16x128 (mulf v103 v85) shapeCasts_S16x128_S16x128

theorem shapeCast_self {S : Shape} {α : Type} (x : S.Idx → α) (h : S.ShapeCasts S) : shapeCast S x h = x := by
  funext j; show x (Shape.reshapeEquiv h j) = x j; rw [Shape.reshapeEquiv_self]

theorem shapeCast_shapeCast_self {S S' : Shape} {α : Type} (x : S.Idx → α) (h : S.ShapeCasts S') (h' : S'.ShapeCasts S) :
    shapeCast S (shapeCast S' x h) h' = x := by
  funext j; show x (Shape.reshapeEquiv h (Shape.reshapeEquiv h' j)) = x j
  rw [Shape.reshapeEquiv_reshapeEquiv, Shape.reshapeEquiv_self]

theorem gather84 (v71 : Vec F S1x128 .i32) (idx : IVec S8x128 32) (j : S8x128.Idx) :
    dynamicGather 1 (k0_pay84 v71) idx j = v71 (ix2 0 ⟨(idx j).toNat % 128, Nat.mod_lt _ (by decide)⟩) := by
  unfold k0_pay84
  show dynamicGather 1 (broadcastTo S8x128 (shapeCast S1x128 v71 shapeCasts_S1x128_S1x128) broadcasts_S1x128_S8x128) idx j = _
  rw [shapeCast_self]
  refine congrArg v71 ?_
  funext a; apply Fin.ext; fin_cases a <;> rfl

theorem gather83 (v68 : Vec F S1x128 .i32) (idx : IVec S8x128 32) (j : S8x128.Idx) :
    dynamicGather 1 (k0_pay83 v68) idx j = v68 (ix2 0 ⟨(idx j).toNat % 128, Nat.mod_lt _ (by decide)⟩) := gather84 v68 idx j

/-- The tile at an element is the decoded weight of its packed byte. -/
theorem tile_apply (v68 v71 : Vec F S1x128 .i32) (v81 : Vec F S8x128 .f32) (v89 : Vec F S32x128 .i8) (b : Fin 8) (s : Fin 4)
    (r : Fin 16) (l : Fin 128) :
    tile v68 v71 v81 v89 b s (ix2 r l) = wElt (fun n => v68 (ix2 0 n)) (fun n => v71 (ix2 0 n)) (v81 (ix2 b l))
      (v89 (ix2 ⟨8 * s.val + r.val / 2, by omega⟩ l)) (r.val % 2) := by
  unfold tile
  rw [shapeCast_self, shapeCast_shapeCast_self, shapeCast_self]
  show FloatOps.mulf _ _ = FloatOps.mulf _ _
  refine congr (congrArg _ ?_) ?_
  · show FloatOps.ofBits .bf16 (bitcast S16x128 16 _ _ _) = FloatOps.ofBits .bf16 _
    refine congrArg _ ?_
    rw [bitcast_32_16]
    have hrow : S16x128.row (ix2 r l) = r.val := rfl
    have hsrc : ∀ hp, bitcasts_S8x128_w32_S16x128_w16.srcIdx (ix2 r l) (S16x128.row (ix2 r l) / 2) hp = ix2 ⟨r.val / 2, by omega⟩ l := by
      intro hp; funext a; apply Fin.ext; fin_cases a
      · exact Shape.Bitcasts.srcIdx_row _ _ _ hp 0 rfl
      · exact Shape.Bitcasts.srcIdx_other _ _ _ hp 1 (by decide)
    rw [hsrc, hrow]
    refine congrArg (fun w : BitVec 32 => w.extractLsb' (16 * (r.val % 2)) 16) ?_
    have hc : extractStridedSlice S8x128 ![8 * s.val, 0] (extui 32 v89 natLt_8_32) (slices_codes s) (ix2 ⟨r.val / 2, by omega⟩ l)
        = (v89 (ix2 ⟨8 * s.val + r.val / 2, by omega⟩ l)).setWidth 32 := by
      refine congrArg (fun y => (v89 y).setWidth 32) ?_
      funext a; apply Fin.ext; fin_cases a
      · rfl
      · exact Nat.zero_add _
    show Scalar.select (IntOp.cmpi .sge (extractStridedSlice S8x128 ![8 * s.val, 0] (extui 32 v89 natLt_8_32) (slices_codes s) (ix2 ⟨r.val / 2, by omega⟩ l)) 128#32)
      (dynamicGather 1 (k0_pay84 v71) _ _) (dynamicGather 1 (k0_pay83 v68) _ _) = _
    rw [gather84, gather83]
    show Scalar.select (IntOp.cmpi .sge _ 128#32)
      (v71 (ix2 0 ⟨(IntOp.andi (extractStridedSlice S8x128 ![8 * s.val, 0] (extui 32 v89 natLt_8_32) (slices_codes s) (ix2 ⟨r.val / 2, by omega⟩ l)) 127#32).toNat % 128, _⟩))
      (v68 (ix2 0 ⟨(IntOp.andi (extractStridedSlice S8x128 ![8 * s.val, 0] (extui 32 v89 natLt_8_32) (slices_codes s) (ix2 ⟨r.val / 2, by omega⟩ l)) 127#32).toNat % 128, _⟩)) = _
    simp only [hc]
    rfl
  · refine congrArg (fun y => FloatOps.truncf .bf16 bitsLt_bf16_f32 (v81 y)) ?_
    funext a; apply Fin.ext; fin_cases a
    · rfl
    · exact Nat.zero_add _

end Cert.Kernel.Hand
-- ==== Proof.Bits.Names.lean ====
module

public import proofs.«01_k».proof.Proof.Bits.Decode
public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S1280x6912 .i8 := Memref.whole main_arg1
abbrev wM : Memref sig .tc .vmem S2560x6912 .bf16 := Memref.whole cc0_scratch0
abbrev stM : Memref sig .tc .vmem S2x256x6912 .i8 := Memref.whole cc0_scratch1

abbrev chOff (b : Fin 5) : Fin 2 → Nat := ![256 * b.val, 0]
theorem chOff_inb (b : Fin 5) : ∀ a, chOff b a + S256x6912.size a ≤ S1280x6912.size a := by
  have := b.isLt; intro a; fin_cases a
  · show 256 * b.val + 256 ≤ 1280; omega
  · show 0 + 6912 ≤ 6912; omega
abbrev slotOff (s : Fin 2) : Fin 3 → Nat := ![s.val, 0, 0]
theorem slotOff_inb (s : Fin 2) : ∀ a, slotOff s a + S1x256x6912.size a ≤ S2x256x6912.size a := by
  have := s.isLt; intro a; fin_cases a
  · show s.val + 1 ≤ 2; omega
  · show 0 + 256 ≤ 256; omega
  · show 0 + 6912 ≤ 6912; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Chunk `b` of the packed codes: 256 rows. -/
def chunk (b : Fin 5) : Memref sig .tc .hbm S256x6912 .i8 :=
  hbM.slice (Rect.unit (s := S1280x6912) (chOff b) S256x6912.size (chOff_inb b)) (fun _ => rfl)
/-- Slot `s` of the two landing slots. -/
def slot (s : Fin 2) : Memref sig .tc .vmem S256x6912 .i8 :=
  (stM.slice (Rect.unit (s := S2x256x6912) (slotOff s) S1x256x6912.size (slotOff_inb s)) (fun _ => rfl)).squeeze S256x6912 squeezes_S1x256x6912_S256x6912
/-- Slot `s`'s completion cell. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 5) : ClosedOff (chOff b) := ⟨chOff b, rfl⟩

theorem slot_congr {off : Fin 3 → Nat} {s : Fin 2} (e : off = slotOff s) (hh hs) :
    (stM.slice (Rect.unit (s := S2x256x6912) off S1x256x6912.size hh) hs).squeeze S256x6912 squeezes_S1x256x6912_S256x6912 = slot s :=
  congrArg (fun M : Memref sig .tc .vmem S1x256x6912 .i8 => M.squeeze S256x6912 squeezes_S1x256x6912_S256x6912) (Memref.slice_unit_congr _ e _ _ _ _)
theorem chunk_congr {off : Fin 2 → Nat} {b : Fin 5} (e : off = chOff b) (hh hs) :
    hbM.slice (Rect.unit (s := S1280x6912) off S256x6912.size hh) hs = chunk b := Memref.slice_unit_congr _ e _ _ _ (fun _ => rfl)
theorem csm_congr {off : Fin 1 → Nat} {s : Fin 2} (e : off = semOff s) (hh) :
    (cc0_scratch2.slice (Rect.unit (s := S2) off S1.size hh)).squeeze S_ squeezes_S1_S_ = csm s :=
  congrArg (fun M : DmaSems sig S1 => M.squeeze S_ squeezes_S1_S_) (SemArray.slice_unit_congr _ e _ _)

/-! The offsets the loop computes, in closed form. -/
theorem off8_eq : ∀ k : Fin k0_t1_loop.trips, k0_off8 k = slotOff (Ring.sl 2 k.val) := by decide +kernel
theorem off5_eq : ∀ k : Fin k0_t1_loop.trips, k0_off5 k = slotOff (Ring.sl 2 k.val) := by decide +kernel
theorem off4_eq : ∀ k : Fin k0_t1_loop.trips, k0_off4 k = semOff (Ring.sl 2 k.val) := by decide +kernel
theorem off2_eq : ∀ k : Fin k0_t1_loop.trips, k0_off2 k = slotOff (Ring.sl 2 (k.val + 1)) := by decide +kernel
theorem off1_eq : ∀ k : Fin k0_t1_loop.trips, k0_off1 k = semOff (Ring.sl 2 (k.val + 1)) := by decide +kernel
theorem off6_eq : ∀ k : Fin k0_t1_loop.trips, k0_off6 k = ![256 * k.val, 0] := by decide +kernel
theorem off3_eq : ∀ k : Fin k0_t1_loop.trips, k.val + 1 < 5 → k0_off3 k = ![256 * (k.val + 1), 0] := by decide +kernel
theorem off7_eq : ∀ (k : Fin k0_t1_loop.trips) (k2 : Fin k0_t2_loop.trips), k0_off7 k k2 = ![8 * k.val, 128 * k2.val] := by decide +kernel
theorem off10_eq : ∀ (k : Fin k0_t1_loop.trips) (k2 : Fin k0_t2_loop.trips) (b : Fin 8) (s : Fin 4),
    k0_off10 k k2 (BitVec.ofNat 32 (32 * b.val)) (BitVec.ofNat 32 (8 * s.val)) = ![512 * k.val + 64 * b.val + 16 * s.val, 128 * k2.val] := by
  decide +kernel

/-- The packed-tile offset of block `b`. -/
def cOff (k2 : Fin k0_t2_loop.trips) : Fin 8 → Fin 2 → Nat
  | 0 => k0_off9 k2 | 1 => k0_off11 k2 | 2 => k0_off12 k2 | 3 => k0_off13 k2
  | 4 => k0_off14 k2 | 5 => k0_off15 k2 | 6 => k0_off16 k2 | 7 => k0_off17 k2
theorem cOff_eq : ∀ (k2 : Fin k0_t2_loop.trips) (b : Fin 8), cOff k2 b = ![32 * b.val, 128 * k2.val] := by decide +kernel

@[sl_canon] theorem slot8 (k : Fin k0_t1_loop.trips) (hh hs) :
    (stM.slice (Rect.unit (s := S2x256x6912) (k0_off8 k) S1x256x6912.size hh) hs).squeeze S256x6912 squeezes_S1x256x6912_S256x6912 = slot (Ring.sl 2 k.val) := slot_congr (off8_eq k) _ _

end Cert.Kernel.Hand
-- ==== Proof.Bits.Trip.lean ====
module

public import proofs.«01_k».proof.Proof.Bits.Names
public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One trip of the inner loop: thirty-two stores of one tile each -/

section Pieces
variable (i : grid0.Coords) (k0_h1 : k0_cond1 i = 1#1) (k1 : Fin k0_t1_loop.trips) (k2 : Fin k0_t2_loop.trips)
variable (v68 v71 : Vec F S1x128 .i32) (A : S40x6912.Idx → F .f32) (C : S256x6912.Idx → BitVec 8)

theorem k1_lt : k1.val < 5 := lt_of_lt_of_le k1.isLt (by decide)
theorem k2_lt : k2.val < 54 := lt_of_lt_of_le k2.isLt (by decide)

/-- The decoded weights of a chunk, as a function of the scratch's element. -/
def gW (y : S2560x6912.Idx) : F .bf16 :=
  wElt (fun n => v68 (ix2 0 n)) (fun n => v71 (ix2 0 n))
    (A (ix2 ⟨(y 0).val / 64, by have : (y 0).val < 2560 := (y 0).isLt; omega⟩ (y 1)))
    (C (ix2 ⟨(y 0).val % 512 / 2, by omega⟩ (y 1))) ((y 0).val % 2)

/-- One store of the trip: its rectangle and its payload. -/
def pc (q : Fin 8 × Fin 4) : View.Piece (Elt F) S2560x6912 .bf16 :=
  ⟨Rect.unit (s := S2560x6912) (k0_off10 k1 k2 (BitVec.ofNat 32 (32 * q.1.val)) (BitVec.ofNat 32 (8 * q.2.val))) S16x128.size
      (k0_off10_inb i k1 k2 k0_h1 q.1 q.2),
    tile v68 v71 (fun x => A ((Rect.unit (s := S40x6912) (k0_off7 k1 k2) S8x128.size (k0_off7_inb i k1 k2 k0_h1)).emb x))
      (fun x => C ((Rect.unit (s := S256x6912) (cOff k2 q.1) S32x128.size (by
        rw [cOff_eq]; intro a; have := q.1.isLt; have := k2_lt k2; fin_cases a
        · show 32 * q.1.val + 32 ≤ 256; omega
        · show 128 * k2.val + 128 ≤ 6912; omega)).emb x)) q.1 q.2⟩

/-- The thirty-two stores, last first. -/
def order : List (Fin 8 × Fin 4) :=
  [(7,3),(7,2),(7,1),(7,0),(6,3),(6,2),(6,1),(6,0),(5,3),(5,2),(5,1),(5,0),(4,3),(4,2),(4,1),(4,0),
   (3,3),(3,2),(3,1),(3,0),(2,3),(2,2),(2,1),(2,0),(1,3),(1,2),(1,1),(1,0),(0,3),(0,2),(0,1),(0,0)]
theorem mem_order : ∀ (b : Fin 8) (s : Fin 4), (b, s) ∈ order := by decide

/-- Each store's payload is its tile of the chunk's decoded weights. -/
theorem pc_apply (q : Fin 8 × Fin 4) (x : (pc i k0_h1 k1 k2 v68 v71 A C q).1.shape.Idx) :
    (pc i k0_h1 k1 k2 v68 v71 A C q).2 x = gW v68 v71 A C ((pc i k0_h1 k1 k2 v68 v71 A C q).1.emb x) := by
  obtain ⟨b, s⟩ := q
  have hx : x = (ix2 (n0 := 16) (n1 := 128) (x 0) (x 1) : S16x128.Idx) := eq_ix2 (n0 := 16) (n1 := 128) x
  have h0 : (x 0).val < 16 := (x 0).isLt
  have h1 : (x 1).val < 128 := (x 1).isLt
  have hk := k1_lt k1
  have hk2 := k2_lt k2
  have hb := b.isLt
  have hs := s.isLt
  have e0 : ((pc i k0_h1 k1 k2 v68 v71 A C (b, s)).1.emb x 0 : Nat) = 512 * k1.val + 64 * b.val + 16 * s.val + (x 0).val := by
    rw [Rect.emb_apply]
    show k0_off10 k1 k2 (BitVec.ofNat 32 (32 * b.val)) (BitVec.ofNat 32 (8 * s.val)) 0 + 1 * (x 0).val = _
    rw [off10_eq, Nat.one_mul]; rfl
  have e1 : ((pc i k0_h1 k1 k2 v68 v71 A C (b, s)).1.emb x 1 : Nat) = 128 * k2.val + (x 1).val := by
    rw [Rect.emb_apply]
    show k0_off10 k1 k2 (BitVec.ofNat 32 (32 * b.val)) (BitVec.ofNat 32 (8 * s.val)) 1 + 1 * (x 1).val = _
    rw [off10_eq, Nat.one_mul]; rfl
  refine (congrArg (tile _ _ _ _ _ _) hx).trans ?_
  refine (tile_apply _ _ _ _ _ _ _ _).trans ?_
  unfold gW
  have ep : ((pc i k0_h1 k1 k2 v68 v71 A C (b, s)).1.emb x 0 : Nat) % 2 = (x 0).val % 2 := by rw [e0]; omega
  rw [ep]
  refine congrFun (congr (congrArg (wElt _ _) (congrArg A ?_)) (congrArg C ?_)) _
  · funext a; apply Fin.ext; fin_cases a
    · refine (Rect.emb_apply _ _ _).trans ?_
      show k0_off7 k1 k2 0 + 1 * b.val = ((pc i k0_h1 k1 k2 v68 v71 A C (b, s)).1.emb x 0 : Nat) / 64
      rw [off7_eq, e0]; show 8 * k1.val + 1 * b.val = _; omega
    · refine (Rect.emb_apply _ _ _).trans ?_
      show k0_off7 k1 k2 1 + 1 * (x 1).val = ((pc i k0_h1 k1 k2 v68 v71 A C (b, s)).1.emb x 1 : Nat)
      rw [off7_eq, e1]; show 128 * k2.val + 1 * (x 1).val = _; omega
  · funext a; apply Fin.ext; fin_cases a
    · refine (Rect.emb_apply _ _ _).trans ?_
      show cOff k2 b 0 + 1 * (8 * s.val + (x 0).val / 2) = ((pc i k0_h1 k1 k2 v68 v71 A C (b, s)).1.emb x 0 : Nat) % 512 / 2
      rw [cOff_eq, e0]; show 32 * b.val + 1 * (8 * s.val + (x 0).val / 2) = _; omega
    · refine (Rect.emb_apply _ _ _).trans ?_
      show cOff k2 b 1 + 1 * (x 1).val = ((pc i k0_h1 k1 k2 v68 v71 A C (b, s)).1.emb x 1 : Nat)
      rw [cOff_eq, e1]; show 128 * k2.val + 1 * (x 1).val = _; omega

/-- The scratch after the trip: the chunk's rows of the trip's 128 columns decoded, the rest as before. -/
def updW (f : S2560x6912.Idx → F .bf16) : S2560x6912.Idx → F .bf16 := fun y =>
  if (y 0).val / 512 = k1.val ∧ (y 1).val / 128 = k2.val then gW v68 v71 A C y else f y

theorem mem_pc (q : Fin 8 × Fin 4) (y : S2560x6912.Idx) :
    y ∈ (pc i k0_h1 k1 k2 v68 v71 A C q).1.set ↔
      (512 * k1.val + 64 * q.1.val + 16 * q.2.val ≤ (y 0).val ∧ (y 0).val < 512 * k1.val + 64 * q.1.val + 16 * q.2.val + 16) ∧
      (128 * k2.val ≤ (y 1).val ∧ (y 1).val < 128 * k2.val + 128) := by
  unfold pc
  rw [Rect.mem_set_unit, off10_eq]
  constructor
  · intro h; exact ⟨h 0, h 1⟩
  · rintro ⟨h0, h1⟩ a; fin_cases a
    · exact h0
    · exact h1

theorem writes_order (f : S2560x6912.Idx → F .bf16) :
    wM.view.writes (Elt F) f (order.map (pc i k0_h1 k1 k2 v68 v71 A C)) = updW k1 k2 v68 v71 A C f := by
  funext y
  show wM.view.read (Elt F) (wM.view.writes (Elt F) f (order.map (pc i k0_h1 k1 k2 v68 v71 A C))) y = _
  have hk := k1_lt k1
  have hk2 := k2_lt k2
  unfold updW
  split_ifs with h
  · refine View.read_writes_apply_of_pieces (Val := Elt F) (v := wM.view) (e := .bf16) (s := S2560x6912) f (gW v68 v71 A C) _ ?_ y ?_
    · intro p hp; obtain ⟨q, -, rfl⟩ := List.mem_map.1 hp; exact pc_apply i k0_h1 k1 k2 v68 v71 A C q
    · refine ⟨_, List.mem_map.2 ⟨(⟨(y 0).val % 512 / 64, by omega⟩, ⟨(y 0).val % 64 / 16, by omega⟩), mem_order _ _, rfl⟩, ?_⟩
      rw [mem_pc]; dsimp only; omega
  · refine (View.read_writes_apply_of_forall_not_mem _ _ y _ ?_).trans rfl
    intro p hp; obtain ⟨q, -, rfl⟩ := List.mem_map.1 hp
    rw [mem_pc]; have := q.1.isLt; have := q.2.isLt; omega

end Pieces

section Trip
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)

/-- A trip of the inner loop on this program's buffers. -/
abbrev body2 (k0_t1 : Fin k0_t1_loop.trips) (arg16 : BitVec 32) (v68 v71 : Vec F S1x128 .i32) (k : Fin k0_t2_loop.trips) : Prog (TpuEff nD τ sig (Elt F) Λ₀ .tc) Unit :=
  k0_t2_body (F := F) i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 k0_t1 arg16 v68 v71 k ()

/-- A trip of the inner loop leaves the read buffers as they were and its columns of the chunk decoded. -/
theorem trip2 (k0_t1 : Fin k0_t1_loop.trips) (arg16 : BitVec 32) (v68 v71 : Vec F S1x128 .i32) (k : Fin k0_t2_loop.trips)
    (X2 : BufTy.Contents (Elt F) arg2.view.ty) (XS : BufTy.Contents (Elt F) (slot (Ring.sl 2 k0_t1.val)).view.ty)
    (f : Buf (Elt F) (wM.view.loc (c : Thread nD τ))) :
    iprop((arg2.view.loc (c : Thread nD τ) ↦[arg2.view.set]{fullShare} X2)
      ∗ ((slot (Ring.sl 2 k0_t1.val)).view.loc (c : Thread nD τ) ↦[(slot (Ring.sl 2 k0_t1.val)).view.set]{fullShare} XS)
      ∗ (wM.view.loc (c : Thread nD τ) ↦[wM.view.set]{fullShare} f))
    ⊢ (wp frame (wpE (defs₀ (F := F)) Variants.none (c : Thread nD τ) none) Set.univ
        (body2 i arg1 harg1 arg2 harg2 arg3 harg3 arg4 harg4 arg5 harg5 arg6 harg6 arg8 harg8 arg9 harg9 arg10 harg10 arg11 harg11 arg12 harg12 k0_h1 k0_t1 arg16 v68 v71 k)
        (fun _ => iprop((arg2.view.loc (c : Thread nD τ) ↦[arg2.view.set]{fullShare} X2)
      ∗ ((slot (Ring.sl 2 k0_t1.val)).view.loc (c : Thread nD τ) ↦[(slot (Ring.sl 2 k0_t1.val)).view.set]{fullShare} XS)
      ∗ (wM.view.loc (c : Thread nD τ) ↦[wM.view.set]{fullShare}
          updW k0_t1 k v68 v71 (arg2.view.read (Elt F) X2) ((slot (Ring.sl 2 k0_t1.val)).view.read (Elt F) XS) f))) : sProp 𝕄) := by
  unfold body2 k0_t2_body
  iintro ⟨HR, HS, HW⟩
  sl_exec
  sl_step
  isplitl [HR]; · iexact HR
  isplitl [HS]; · iexact HS
  irw [← writes_order i k0_h1 k0_t1 k v68 v71 (arg2.view.read (Elt F) X2) ((slot (Ring.sl 2 k0_t1.val)).view.read (Elt F) XS) f]
  iexact HW

end Trip
end Cert.Kernel.Hand
-- ==== Proof.Bits.Inner.lean ====
module

public import proofs.«01_k».proof.Proof.Bits.Trip
public import proofs.«01_k».proof.Proof.Gen.Kernel.Frame
public import proofs.«01_k».proof.Proof.Gen.Kernel.Loops
public import proofs.«01_k».proof.Proof.Gen.Kernel.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The inner loop: fifty-four column stripes of one chunk -/

section Acc
variable (k1 : ℕ) (G f : S2560x6912.Idx → F .bf16)

/-- The scratch before stripe `n` of chunk `k1`: the stripes before it decoded, the rest as at the loop's entry. -/
def accI : ℕ → (S2560x6912.Idx → F .bf16)
  | 0 => f
  | n + 1 => fun y => if (y 0).val / 512 = k1 ∧ (y 1).val / 128 = n then G y else accI n y

theorem accI_eq (n : ℕ) (y : S2560x6912.Idx) :
    accI k1 G f n y = if (y 0).val / 512 = k1 ∧ (y 1).val / 128 < n then G y else f y := by
  induction n with
  | zero => rw [if_neg (by omega)]; rfl
  | succ n ih =>
    show (if (y 0).val / 512 = k1 ∧ (y 1).val / 128 = n then G y else accI k1 G f n y) = _
    rw [ih]; split_ifs <;> first | rfl | omega

/-- After the last stripe the chunk's rows are decoded. -/
theorem accI_last : accI k1 G f 54 = fun y => if (y 0).val / 512 = k1 then G y else f y := by
  funext y; rw [accI_eq]
  have h1 : (y 1).val < 6912 := (y 1).isLt
  split_ifs <;> first | rfl | omega

end Acc

section Inner
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)

set_option warn.classDefReducibility false in
/-- The inner loop's invariant: the read buffers unchanged, the stripes before the trip decoded. -/
@[sl_loop] def innerInv (k0_t1 : Fin k0_t1_loop.trips) (arg16 : BitVec 32) (v68 v71 : Vec F S1x128 .i32)
    (X2 : BufTy.Contents (Elt F) arg2.view.ty) (XS : BufTy.Contents (Elt F) (slot (Ring.sl 2 k0_t1.val)).view.ty)
    (f : Buf (Elt F) (wM.view.loc (c : Thread nD τ))) :
    LoopInvTy_k0_t2 (F := F) Unit ℕ (Pipeline.UD sig nD τ) ℕ Variants.none c none Set.univ i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 k0_t1 arg16 v68 v71 where
  inv k _ := iprop((arg2.view.loc (c : Thread nD τ) ↦[arg2.view.set]{fullShare} X2)
      ∗ ((slot (Ring.sl 2 k0_t1.val)).view.loc (c : Thread nD τ) ↦[(slot (Ring.sl 2 k0_t1.val)).view.set]{fullShare} XS)
      ∗ (wM.view.loc (c : Thread nD τ) ↦[wM.view.set]{fullShare}
          accI k0_t1.val (gW v68 v71 (arg2.view.read (Elt F) X2) ((slot (Ring.sl 2 k0_t1.val)).view.read (Elt F) XS)) f k))
  step k _ := trip2 c i arg1 harg1 arg2 harg2 arg3 harg3 arg4 harg4 arg5 harg5 arg6 harg6 arg8 harg8 arg9 harg9 arg10 harg10 arg11 harg11 arg12 harg12 k0_h1 k0_t1 arg16 v68 v71 k X2 XS _

end Inner
end Cert.Kernel.Hand
-- ==== Proof.Bits.Outer.lean ====
module

public import proofs.«01_k».proof.Proof.Bits.Inner
public import proofs.«01_k».proof.Proof.Gen.Kernel.Frame
public import proofs.«01_k».proof.Proof.Gen.Kernel.Loops
public import proofs.«01_k».proof.Proof.Gen.Kernel.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The outer loop: five chunks of packed codes through two landing slots -/

section Pieces
variable (c : Dev nD) (XA : Buf (Elt F) (hbM.view.loc (c : Thread nD τ)))

abbrev cellP (s : Fin 2) : sProp 𝕄 := semVal ((c : Thread nD τ), SemLoc.dma (csm s).sem) 0
abbrev slotP (s : Fin 2) (f : Buf (Elt F) ((slot s).view.loc (c : Thread nD τ))) : sProp 𝕄 :=
  (slot s).view.loc (c : Thread nD τ) ↦[(slot s).view.set]{fullShare} f
/-- Chunk `b` held at the packed codes' contents. -/
abbrev homeP (b : Fin 5) : sProp 𝕄 := (chunk b).view.loc (c : Thread nD τ) ↦[(chunk b).view.set]{fullShare} XA
/-- What chunk `b`'s copy leaves in slot `s`. -/
abbrev landed (s : Fin 2) (b : Fin 5) (f : Buf (Elt F) ((slot s).view.loc (c : Thread nD τ))) : Buf (Elt F) ((slot s).view.loc (c : Thread nD τ)) :=
  (slot s).view.writes (Elt F) f [⟨Rect.whole S256x6912, ReadAs.same.apply ((chunk b).view.read (Elt F) XA)⟩]
/-- Slot `s` in flight with chunk `b`. -/
abbrev flightP (s : Fin 2) (b : Fin 5) (f : Buf (Elt F) ((slot s).view.loc (c : Thread nD τ))) : sProp 𝕄 :=
  Transfers.Flight countersEmb (c : Thread nD τ) (SemLoc.dma (csm s).sem) () 55296 iprop(slotP c s (landed c XA s b f) ∗ homeP c XA b)

theorem homes_here (k : ℕ) (hk : k + 1 < 5) :
    bigSep (Ring.homeSet 1 k) (homeP c XA) = iprop(homeP c XA (Ring.bk 5 (k + 1)) ∗ bigSep ((Ring.homeSet 1 k).erase (Ring.bk 5 (k + 1))) (homeP c XA)) := by
  conv_lhs => rw [Ring.homeSet_out 1 k hk, bigSep_insert (Ring.bkL_not_mem_erase 1 k)]
  rfl
theorem homes_next (k : ℕ) (hk : k + 1 < 5) :
    bigSep (Ring.homeSet 1 (k + 1)) (homeP c XA) = iprop(homeP c XA (Ring.bk 5 k) ∗ bigSep ((Ring.homeSet 1 k).erase (Ring.bk 5 (k + 1))) (homeP c XA)) := by
  conv_lhs => rw [Ring.homeSet_succ 1 k hk, bigSep_insert (Ring.bk_not_mem_erase 1 k (by omega) (by decide))]
  rfl
theorem homes_tail :
    bigSep (Ring.homeSet 1 (4 + 1)) (homeP c XA) = iprop(homeP c XA (Ring.bk 5 4) ∗ bigSep (Ring.homeSet 1 4) (homeP c XA)) := by
  conv_lhs => rw [Ring.homeSet_succ_tail 1 4 (by decide) (by decide), bigSep_insert (Ring.bk_not_mem_homeSet 1 4 (by decide) (by decide))]
  rfl
omit [FloatOps F] in
theorem sl2_add2 (k : ℕ) : Ring.sl 2 (k + 1 + 1) = Ring.sl 2 k := by rw [show k + 1 + 1 = k + 2 from rfl, Ring.sl_add]

end Pieces

theorem bk_eq {k : ℕ} (h : k < 5) : chOff (Ring.bk 5 k) = ![256 * k, 0] := by
  show (![256 * (Ring.bk 5 k).val, 0] : Fin 2 → Nat) = _
  rw [Ring.bk_val h]

@[sl_canon] theorem slot5 (k : Fin k0_t1_loop.trips) (hh hs) :
    (stM.slice (Rect.unit (s := S2x256x6912) (k0_off5 k) S1x256x6912.size hh) hs).squeeze S256x6912 squeezes_S1x256x6912_S256x6912 = slot (Ring.sl 2 k.val) := slot_congr (off5_eq k) _ _
@[sl_canon] theorem slot2 (k : Fin k0_t1_loop.trips) (hh hs) :
    (stM.slice (Rect.unit (s := S2x256x6912) (k0_off2 k) S1x256x6912.size hh) hs).squeeze S256x6912 squeezes_S1x256x6912_S256x6912 = slot (Ring.sl 2 (k.val + 1)) := slot_congr (off2_eq k) _ _
@[sl_canon] theorem sem4 (k : Fin k0_t1_loop.trips) (hh) :
    (cc0_scratch2.slice (Rect.unit (s := S2) (k0_off4 k) S1.size hh)).squeeze S_ squeezes_S1_S_ = csm (Ring.sl 2 k.val) := csm_congr (off4_eq k) _
@[sl_canon] theorem sem1 (k : Fin k0_t1_loop.trips) (hh) :
    (cc0_scratch2.slice (Rect.unit (s := S2) (k0_off1 k) S1.size hh)).squeeze S_ squeezes_S1_S_ = csm (Ring.sl 2 (k.val + 1)) := csm_congr (off1_eq k) _
@[sl_canon] theorem chunk6 (k : Fin k0_t1_loop.trips) (hh hs) :
    hbM.slice (Rect.unit (s := S1280x6912) (k0_off6 k) S256x6912.size hh) hs = chunk (Ring.bk 5 k.val) :=
  chunk_congr ((off6_eq k).trans (bk_eq (k1_lt k)).symm) _ _
@[sl_canon] theorem chunk3 (k : Fin k0_t1_loop.trips) (hk : k.val + 1 < 5) (hh hs) :
    hbM.slice (Rect.unit (s := S1280x6912) (k0_off3 k) S256x6912.size hh) hs = chunk (Ring.bk 5 (k.val + 1)) :=
  chunk_congr ((off3_eq k hk).trans (bk_eq hk).symm) _ _

section Full
variable (T0 T1 : Fin 128 → BitVec 32) (A : S40x6912.Idx → F .f32) (P : S1280x6912.Idx → BitVec 8)

/-- The whole decoded weight matrix. -/
def wFull (y : S2560x6912.Idx) : F .bf16 :=
  wElt T0 T1 (A (ix2 ⟨(y 0).val / 64, by have : (y 0).val < 2560 := (y 0).isLt; omega⟩ (y 1)))
    (P (ix2 ⟨(y 0).val / 2, by have : (y 0).val < 2560 := (y 0).isLt; omega⟩ (y 1))) ((y 0).val % 2)

/-- The scratch before chunk `n`: the chunks before it decoded. -/
def accO (f : S2560x6912.Idx → F .bf16) : ℕ → (S2560x6912.Idx → F .bf16)
  | 0 => f
  | n + 1 => fun y => if (y 0).val / 512 = n then wFull T0 T1 A P y else accO f n y

theorem accO_eq (f : S2560x6912.Idx → F .bf16) (n : ℕ) (y : S2560x6912.Idx) :
    accO T0 T1 A P f n y = if (y 0).val / 512 < n then wFull T0 T1 A P y else f y := by
  induction n with
  | zero => rw [if_neg (by omega)]; rfl
  | succ n ih =>
    show (if (y 0).val / 512 = n then wFull T0 T1 A P y else accO T0 T1 A P f n y) = _
    rw [ih]; split_ifs <;> first | rfl | omega

/-- After the last chunk the scratch is the decoded weight matrix. -/
theorem accO_last (f : S2560x6912.Idx → F .bf16) : accO T0 T1 A P f 5 = wFull T0 T1 A P := by
  funext y; rw [accO_eq, if_pos]
  have h0 : (y 0).val < 2560 := (y 0).isLt
  omega
end Full

/-- Row `r` of the table. -/
def tabRow (X : S2x128.Idx → BitVec 32) (r : Fin 2) : Fin 128 → BitVec 32 := fun n => X (ix2 r n)

section Outer
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)
variable (XA : Buf (Elt F) (hbM.view.loc (c : Thread nD τ)))
  (X1 : BufTy.Contents (Elt F) arg1.view.ty) (X2 : BufTy.Contents (Elt F) arg2.view.ty)

/-- The scratch's final contents from the three read buffers. -/
abbrev accS (f : Buf (Elt F) (wM.view.loc (c : Thread nD τ))) (k : ℕ) : Buf (Elt F) (wM.view.loc (c : Thread nD τ)) :=
  accO (tabRow (arg1.view.read (Elt F) X1) 0) (tabRow (arg1.view.read (Elt F) X1) 1) (arg2.view.read (Elt F) X2) (hbM.view.read (Elt F) XA) f k

/-- What every trip holds besides the current chunk's flight. -/
def baseR (k : ℕ) (f : Buf (Elt F) (wM.view.loc (c : Thread nD τ))) : sProp 𝕄 :=
  iprop((arg1.view.loc (c : Thread nD τ) ↦[arg1.view.set]{fullShare} X1)
    ∗ (arg2.view.loc (c : Thread nD τ) ↦[arg2.view.set]{fullShare} X2)
    ∗ (wM.view.loc (c : Thread nD τ) ↦[wM.view.set]{fullShare} f)
    ∗ (∃ W, owes (c : Thread nD τ) 0 W)
    ∗ bigSep (Ring.homeSet 1 k) (homeP c XA)
    ∗ (∃ f, slotP c (Ring.sl 2 (k + 1)) f) ∗ cellP c (Ring.sl 2 (k + 1)))
/-- Before trip `k < 5`: chunk `k` in flight. -/
def resF (k : ℕ) (f : Buf (Elt F) (wM.view.loc (c : Thread nD τ))) : sProp 𝕄 :=
  iprop(baseR c arg1 arg2 XA X1 X2 k f ∗ ∃ f, flightP c XA (Ring.sl 2 k) (Ring.bk 5 k) f)
/-- After the last: nothing in flight. -/
def resE (k : ℕ) (f : Buf (Elt F) (wM.view.loc (c : Thread nD τ))) : sProp 𝕄 :=
  iprop(baseR c arg1 arg2 XA X1 X2 k f ∗ (∃ f, slotP c (Ring.sl 2 k) f) ∗ cellP c (Ring.sl 2 k))

abbrev body1 (k : Fin k0_t1_loop.trips) : Prog (TpuEff nD τ sig (Elt F) Λ₀ .tc) Unit :=
  k0_t1_body (F := F) i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 k ()

/-- Contents after chunk `k`'s trip from `f`. -/
abbrev nextS (k : ℕ) (f : Buf (Elt F) (wM.view.loc (c : Thread nD τ))) : Buf (Elt F) (wM.view.loc (c : Thread nD τ)) :=
  fun y : S2560x6912.Idx => if (y 0).val / 512 = k then
    wFull (tabRow (arg1.view.read (Elt F) X1) 0) (tabRow (arg1.view.read (Elt F) X1) 1) (arg2.view.read (Elt F) X2) (hbM.view.read (Elt F) XA) y
    else f y

theorem trip_contents (k : Fin k0_t1_loop.trips) (f : Buf (Elt F) (wM.view.loc (c : Thread nD τ)))
    (g : Buf (Elt F) ((slot (Ring.sl 2 k.val)).view.loc (c : Thread nD τ))) :
    accI k.val
      (gW (View.readAt (Elt F) arg1.view (Rect.unit (s := S2x128) ![0, 0] S1x128.size inb_S2x128_S1x128_0_0).toLoadRect X1)
        (View.readAt (Elt F) arg1.view (Rect.unit (s := S2x128) ![1, 0] S1x128.size inb_S2x128_S1x128_1_0).toLoadRect X1)
        (View.read (Elt F) arg2.view X2)
        (View.read (Elt F) (slot (Ring.sl 2 k.val)).view (landed c XA (Ring.sl 2 k.val) (Ring.bk 5 k.val) g)))
      f (Scf.trips k0_t2_loop.lb k0_t2_loop.ub k0_t2_loop.st) = nextS c arg1 arg2 XA X1 X2 k.val f := by
  have hk := k1_lt k
  rw [show Scf.trips k0_t2_loop.lb k0_t2_loop.ub k0_t2_loop.st = 54 from by decide]
  refine (accI_last _ _ _).trans ?_
  funext y
  have h0 : (y 0).val < 2560 := (y 0).isLt
  show (if (y 0).val / 512 = k.val then _ else _) = if (y 0).val / 512 = k.val then _ else _
  split_ifs with h
  · have hr : ∀ x, View.read (Elt F) (slot (Ring.sl 2 k.val)).view (landed c XA (Ring.sl 2 k.val) (Ring.bk 5 k.val) g) x
        = (chunk (Ring.bk 5 k.val)).view.read (Elt F) XA x := by
      intro x
      refine View.read_writes_apply_of_pieces (Val := Elt F) _ _ ((chunk (Ring.bk 5 k.val)).view.read (Elt F) XA) _ ?_ x ?_
      · intro p hp; rw [List.mem_singleton] at hp; subst hp
        intro x
        show (chunk (Ring.bk 5 k.val)).view.read (Elt F) XA x = (chunk (Ring.bk 5 k.val)).view.read (Elt F) XA ((Rect.whole S256x6912).emb x)
        refine congrArg _ ?_
        funext a; apply Fin.ext; rw [Rect.emb_apply]; show (x a).val = 0 + 1 * (x a).val; omega
      · exact ⟨_, List.mem_singleton.2 rfl, by rw [Rect.set_whole]; exact Finset.mem_univ x⟩
    unfold gW wFull tabRow
    refine congrFun (congr (congr (congr (congrArg wElt ?_) ?_) rfl) ?_) _
    · funext n; rw [View.readAt_apply]; refine congrArg (arg1.view.read (Elt F) X1) ?_
      funext a; apply Fin.ext; fin_cases a
      · rfl
      · show 0 + 1 * n.val = n.val; omega
    · funext n; rw [View.readAt_apply]; refine congrArg (arg1.view.read (Elt F) X1) ?_
      funext a; apply Fin.ext; fin_cases a
      · rfl
      · show 0 + 1 * n.val = n.val; omega
    · rw [hr]
      show XA _ = XA _
      refine congrArg XA ?_
      funext a; apply Fin.ext; fin_cases a
      · refine (Rect.emb_apply _ _ _).trans ?_
        show 256 * (Ring.bk 5 k.val).val + 1 * ((y 0).val % 512 / 2) = (y 0).val / 2
        rw [Ring.bk_val hk]; omega
      · refine (Rect.emb_apply _ _ _).trans ?_
        show 0 + 1 * (y 1).val = (y 1).val
        omega
  · rfl

theorem trip1 (k : Fin k0_t1_loop.trips) (hk : k.val + 1 < 5) (f : Buf (Elt F) (wM.view.loc (c : Thread nD τ))) :
    resF c arg1 arg2 XA X1 X2 k f ⊢ wp frame (wpE (defs₀ (F := F)) Variants.none (c : Thread nD τ) none) Set.univ (body1 i arg1 harg1 arg2 harg2 arg3 harg3 arg4 harg4 arg5 harg5 arg6 harg6 arg8 harg8 arg9 harg9 arg10 harg10 arg11 harg11 arg12 harg12 k0_h1 k)
      (fun _ => resF c arg1 arg2 XA X1 X2 (k.val + 1) (nextS c arg1 arg2 XA X1 X2 k.val f)) := by
  have hc2 : k0_cond2 k = 1#1 := by revert k; decide +kernel
  unfold resF baseR
  rw [homes_here c XA k.val hk, homes_next c XA k.val hk, sl2_add2]
  iintro ⟨⟨H1, H2, HM, ⟨%W, HW⟩, ⟨Hg, Hrest⟩, ⟨%f0, HS⟩, HC⟩, ⟨%f1, HF⟩⟩
  dsimp only [body1]
  sl_unfold [k0_t1_body]
  sl_exec
  sl_step
  isplitl [H1 H2 HM HW HF_src Hrest HF_dst HF]
  · isplitl [H1]; · iexact H1
    isplitl [H2]; · iexact H2
    isplitl [HM]; · irw [← trip_contents c arg1 arg2 XA X1 X2 k f (slot (Ring.sl 2 k.val)).view.junk]; iexact HM
    isplitl [HW]; · iexists _; iexact HW
    isplitl [HF_src Hrest]
    · isplitl [HF_src]; · iexact HF_src
      iexact Hrest
    isplitl [HF_dst]; · iexists _; iexact HF_dst
    iexact HF
  iexists f0
  iexact HC

theorem trip1_last (k : Fin k0_t1_loop.trips) (hk : k.val = 4) (f : Buf (Elt F) (wM.view.loc (c : Thread nD τ))) :
    resF c arg1 arg2 XA X1 X2 k f ⊢ wp frame (wpE (defs₀ (F := F)) Variants.none (c : Thread nD τ) none) Set.univ (body1 i arg1 harg1 arg2 harg2 arg3 harg3 arg4 harg4 arg5 harg5 arg6 harg6 arg8 harg8 arg9 harg9 arg10 harg10 arg11 harg11 arg12 harg12 k0_h1 k)
      (fun _ => resE c arg1 arg2 XA X1 X2 (k.val + 1) (nextS c arg1 arg2 XA X1 X2 k.val f)) := by
  have hc2 : ¬ k0_cond2 k = 1#1 := by revert k; decide +kernel
  unfold resF resE baseR
  have ht : bigSep (Ring.homeSet 1 (k.val + 1)) (homeP c XA) = iprop(homeP c XA (Ring.bk 5 k.val) ∗ bigSep (Ring.homeSet 1 k.val) (homeP c XA)) := by
    rw [hk]; exact homes_tail c XA
  rw [ht, sl2_add2]
  iintro ⟨⟨H1, H2, HM, ⟨%W, HW⟩, Hrest, ⟨%f0, HS⟩, HC⟩, ⟨%f1, HF⟩⟩
  dsimp only [body1]
  sl_unfold [k0_t1_body]
  sl_exec
  sl_step
  isplitl [H1 H2 HM HW HF_src Hrest HF_dst HF]
  · isplitl [H1]; · iexact H1
    isplitl [H2]; · iexact H2
    isplitl [HM]; · irw [← trip_contents c arg1 arg2 XA X1 X2 k f (slot (Ring.sl 2 k.val)).view.junk]; iexact HM
    isplitl [HW]; · iexists _; iexact HW
    isplitl [HF_src Hrest]
    · isplitl [HF_src]; · iexact HF_src
      iexact Hrest
    isplitl [HF_dst]; · iexists _; iexact HF_dst
    iexact HF
  isplitl [HS]; · iexists _; iexact HS
  iexact HC

/-- The loop's resources before trip `k`. -/
def invO (f : Buf (Elt F) (wM.view.loc (c : Thread nD τ))) (k : ℕ) : sProp 𝕄 :=
  match k with
  | 0 => resF c arg1 arg2 XA X1 X2 0 f
  | k + 1 => if k + 1 < 5 then resF c arg1 arg2 XA X1 X2 (k + 1) (accS c arg1 arg2 XA X1 X2 f (k + 1))
    else resE c arg1 arg2 XA X1 X2 (k + 1) (accS c arg1 arg2 XA X1 X2 f (k + 1))

theorem invO_lt (f : Buf (Elt F) (wM.view.loc (c : Thread nD τ))) {k : ℕ} (hk : k < 5) :
    invO c arg1 arg2 XA X1 X2 f k = resF c arg1 arg2 XA X1 X2 k (accS c arg1 arg2 XA X1 X2 f k) := by
  cases k with
  | zero => rfl
  | succ k => exact if_pos hk

set_option warn.classDefReducibility false in
/-- The outer loop's invariant: the chunks before the trip decoded, the trip's own in flight. -/
@[sl_loop] def outerInv (f : Buf (Elt F) (wM.view.loc (c : Thread nD τ))) :
    LoopInvTy_k0_t1 (F := F) Unit ℕ (Pipeline.UD sig nD τ) ℕ Variants.none c none Set.univ i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2 k0_h1 where
  inv k _ := invO c arg1 arg2 XA X1 X2 f k
  step k _ := by
    have hk := k1_lt k
    rw [invO_lt c arg1 arg2 XA X1 X2 f hk]
    by_cases h : k.val + 1 < 5
    · rw [show (fun _ : Unit => invO c arg1 arg2 XA X1 X2 f (k.val + 1)) = fun _ => resF c arg1 arg2 XA X1 X2 (k.val + 1) (accS c arg1 arg2 XA X1 X2 f (k.val + 1)) from
        funext fun _ => invO_lt c arg1 arg2 XA X1 X2 f h]
      exact trip1 c i arg1 harg1 arg2 harg2 arg3 harg3 arg4 harg4 arg5 harg5 arg6 harg6 arg8 harg8 arg9 harg9 arg10 harg10 arg11 harg11 arg12 harg12 k0_h1 XA X1 X2 k h _
    · rw [show (fun _ : Unit => invO c arg1 arg2 XA X1 X2 f (k.val + 1)) = fun _ => resE c arg1 arg2 XA X1 X2 (k.val + 1) (accS c arg1 arg2 XA X1 X2 f (k.val + 1)) from
        funext fun _ => if_neg h]
      exact trip1_last c i arg1 harg1 arg2 harg2 arg3 harg3 arg4 harg4 arg5 harg5 arg6 harg6 arg8 harg8 arg9 harg9 arg10 harg10 arg11 harg11 arg12 harg12 k0_h1 XA X1 X2 k (by omega) _

end Outer
end Cert.Kernel.Hand
-- ==== Proof.Bits.Body.lean ====
module

public import proofs.«01_k».proof.Proof.Bits.Outer
public import proofs.«01_k».proof.Proof.Gen.Kernel.Frame
public import proofs.«01_k».proof.Proof.Gen.Kernel.Loops
public import proofs.«01_k».proof.Proof.Gen.Kernel.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One grid point's body -/

/-- A load of the whole buffer reads its contents. -/
theorem readAt_full {sp : Space} {s : Shape} {e : EltTy} (v : View sig .tc sp s e) (f : BufTy.Contents (Elt F) v.ty) {off : Fin s.rank → ℕ} (h) (ho : ∀ a, off a = 0) :
    View.readAt (Elt F) v (Rect.unit (s := s) off s.size h).toLoadRect f = v.read (Elt F) f := by
  funext y
  rw [View.readAt_apply]
  refine congrArg _ ?_
  funext a; apply Fin.ext
  show off a + 1 * (y a).val = (y a).val
  rw [ho a]; omega

/-- A store over the whole buffer is what a read then finds. -/
theorem read_full {sp : Space} {s : Shape} {e : EltTy} (v : View sig .tc sp s e) (f : BufTy.Contents (Elt F) v.ty) {off : Fin s.rank → ℕ} (h) (ho : ∀ a, off a = 0)
    (w : s.Idx → Elt F e) : v.read (Elt F) (v.writes (Elt F) f [⟨Rect.unit (s := s) off s.size h, w⟩]) = w := by
  have he : ∀ y : s.Idx, (Rect.unit (s := s) off s.size h).emb y = y := fun y => by
    funext a; apply Fin.ext
    show off a + 1 * (y a).val = (y a).val
    rw [ho a]; omega
  funext y
  refine View.read_writes_apply_of_pieces (Val := Elt F) _ _ w _ ?_ y ?_
  · intro p hp; rw [List.mem_singleton] at hp; subst hp
    intro x
    exact congrArg w (he x).symm
  · refine ⟨_, List.mem_singleton.2 rfl, ?_⟩
    rw [Rect.mem_set_unit]
    intro a
    show off a ≤ (y a).val ∧ (y a).val < off a + s.size a
    have := (y a).isLt
    rw [ho a]; omega

theorem read_full_cons {sp : Space} {s : Shape} {e : EltTy} (v : View sig .tc sp s e) (f : BufTy.Contents (Elt F) v.ty) {off : Fin s.rank → ℕ} (h) (ho : ∀ a, off a = 0)
    (w : s.Idx → Elt F e) (L) : v.read (Elt F) (v.writes (Elt F) f (⟨Rect.unit (s := s) off s.size h, w⟩ :: L)) = w :=
  read_full v (v.writes (Elt F) f L) h ho w

theorem readCov_full {sp : Space} {s : Shape} {e : EltTy} (v : View sig .tc sp s e) {off : Fin s.rank → ℕ} (h) (ho : ∀ a, off a = 0)
    (w : s.Idx → Elt F e) {h' : ∀ a, off a + s.size a ≤ s.size a} :
    v.readCov [⟨Rect.unit (s := s) off s.size h, w⟩] (Rect.unit (s := s) off s.size h').toLoadRect = w := by
  unfold View.readCov
  exact (readAt_full v _ _ ho).trans (read_full v _ h ho w)

theorem z2 : ∀ a : Fin 2, (![0, 0] : Fin 2 → ℕ) a = 0 := by decide

theorem sl2_0 : Ring.sl 2 0 = 0 := Fin.ext (by rfl)
theorem sl2_1 : Ring.sl 2 (0 + 1) = 1 := Fin.ext (by rfl)
theorem bk5_0 : Ring.bk 5 0 = 0 := Fin.ext (by rfl)
theorem slotZ (hh hs) :
    (stM.slice (Rect.unit (s := S2x256x6912) ![0, 0, 0] S1x256x6912.size hh) hs).squeeze S256x6912 squeezes_S1x256x6912_S256x6912 = slot 0 := slot_congr (by rfl) _ _
theorem semZ (hh) :
    (cc0_scratch2.slice (Rect.unit (s := S2) ![0] S1.size hh)).squeeze S_ squeezes_S1_S_ = csm 0 := csm_congr (by rfl) _
theorem chunkZ (hh hs) :
    hbM.slice (Rect.unit (s := S1280x6912) ![0, 0] S256x6912.size hh) hs = chunk 0 := chunk_congr (by rfl) _ _

theorem homes_zero (c : Dev nD) (XA : Buf (Elt F) (hbM.view.loc (c : Thread nD τ))) :
    bigSep Finset.univ (homeP c XA) = iprop(homeP c XA 0 ∗ bigSep (Ring.homeSet 1 0) (homeP c XA)) := by
  have e : (Finset.univ : Finset (Fin 5)) = insert 0 (Ring.homeSet (NB := 5) 1 0) := by decide
  rw [e, bigSep_insert (by decide)]; rfl

section Body
variable (c : Dev nD) (i : grid0.Coords) (arg1 : Memref sig .tc .vmem S2x128 .i32) (harg1 : arg1.IsWhole) (arg2 : Memref sig .tc .vmem S40x6912 .f32) (harg2 : arg2.IsWhole) (arg3 : Memref sig .tc .vmem S2560x16 .bf16) (harg3 : arg3.IsWhole) (arg4 : Memref sig .tc .vmem S16x6912 .bf16) (harg4 : arg4.IsWhole) (arg5 : Memref sig .tc .vmem S256x2560 .bf16) (harg5 : arg5.IsWhole) (arg6 : Memref sig .tc .vmem S256x6912 .bf16) (harg6 : arg6.IsWhole) (arg8 : Memref sig .tc .vmem S256x2560 .bf16) (harg8 : arg8.IsWhole) (arg9 : Memref sig .tc .vmem S2560x16 .f32) (harg9 : arg9.IsWhole) (arg10 : Memref sig .tc .vmem S16x6912 .f32) (harg10 : arg10.IsWhole) (arg11 : Memref sig .tc .vmem S256x16 .bf16) (harg11 : arg11.IsWhole) (arg12 : Memref sig .tc .vmem S256x16 .bf16) (harg12 : arg12.IsWhole) (k0_h1 : k0_cond1 i = 1#1)
variable (XA : Buf (Elt F) (hbM.view.loc (c : Thread nD τ)))
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X8 : BufTy.Contents (Elt F) arg8.view.ty) (X9 : BufTy.Contents (Elt F) arg9.view.ty) (X10 : BufTy.Contents (Elt F) arg10.view.ty)
  (X11 : BufTy.Contents (Elt F) arg11.view.ty) (X12 : BufTy.Contents (Elt F) arg12.view.ty)

/-- The decoded matrix from the three read buffers. -/
abbrev wOf : Buf (Elt F) (wM.view.loc (c : Thread nD τ)) :=
  wFull (tabRow (arg1.view.read (Elt F) X1) 0) (tabRow (arg1.view.read (Elt F) X1) 1) (arg2.view.read (Elt F) X2) (hbM.view.read (Elt F) XA)

/-- What the outer loop leaves. -/
def exitO : sProp 𝕄 :=
  iprop((arg1.view.loc (c : Thread nD τ) ↦[arg1.view.set]{fullShare} X1)
    ∗ (arg2.view.loc (c : Thread nD τ) ↦[arg2.view.set]{fullShare} X2)
    ∗ (wM.view.loc (c : Thread nD τ) ↦[wM.view.set]{fullShare} wOf c arg1 arg2 XA X1 X2)
    ∗ (∃ W, owes (c : Thread nD τ) 0 W)
    ∗ bigSep Finset.univ (homeP c XA)
    ∗ (∃ f, slotP c 0 f) ∗ cellP c 0 ∗ (∃ f, slotP c 1 f) ∗ cellP c 1)

theorem invO_exit (f : Buf (Elt F) (wM.view.loc (c : Thread nD τ))) :
    invO c arg1 arg2 XA X1 X2 f 5 ⊢ exitO c arg1 arg2 XA X1 X2 := by
  rw [show invO c arg1 arg2 XA X1 X2 f 5 = resE c arg1 arg2 XA X1 X2 5 (accS c arg1 arg2 XA X1 X2 f 5) from
    (if_neg (by decide) : (if 4 + 1 < 5 then resF c arg1 arg2 XA X1 X2 (4 + 1) (accS c arg1 arg2 XA X1 X2 f (4 + 1)) else resE c arg1 arg2 XA X1 X2 (4 + 1) (accS c arg1 arg2 XA X1 X2 f (4 + 1))) = _)]
  unfold resE baseR exitO
  rw [show accS c arg1 arg2 XA X1 X2 f 5 = wOf c arg1 arg2 XA X1 X2 from accO_last _ _ _ _ _,
    show Ring.homeSet (NB := 5) 1 5 = Finset.univ from by decide,
    show Ring.sl 2 (5 + 1) = 0 from by decide, show Ring.sl 2 5 = 1 from by decide]
  iintro ⟨⟨H1, H2, HM, HW, Hh, HS, HC⟩, HS1, HC1⟩
  isplitl [H1]; · iexact H1
  isplitl [H2]; · iexact H2
  isplitl [HM]; · iexact HM
  isplitl [HW]; · iexact HW
  isplitl [Hh]; · iexact Hh
  isplitl [HS]; · iexact HS
  isplitl [HC]; · iexact HC
  isplitl [HS1]; · iexact HS1
  iexact HC1

set_option warn.classDefReducibility false in
instance outerExit (f : Buf (Elt F) (wM.view.loc (c : Thread nD τ))) :
    LoopExit (outerInv c i arg1 harg1 arg2 harg2 arg3 harg3 arg4 harg4 arg5 harg5 arg6 harg6 arg8 harg8 arg9 harg9 arg10 harg10 arg11 harg11 arg12 harg12 k0_h1 XA X1 X2 f) where
  post _ := exitO c arg1 arg2 XA X1 X2
  exit _ := by
    rw [show Scf.trips k0_t1_loop.lb k0_t1_loop.ub k0_t1_loop.st = 5 from by decide]
    exact invO_exit c arg1 arg2 XA X1 X2 f

/-- The kernel function on one grid point's buffers. -/
abbrev bodyP : Prog (TpuEff nD τ sig (Elt F) Λ₀ .tc) PUnit := cc0_qlora_bwd (F := F) i arg1 harg1 arg2 harg2 arg3 harg3 arg4 harg4 arg5 harg5 arg6 harg6 hbM (Memref.isWhole_whole _) arg8 harg8 arg9 harg9 arg10 harg10 arg11 harg11 arg12 harg12 wM (Memref.isWhole_whole _) stM (Memref.isWhole_whole _) cc0_scratch2

/-- The six read buffers. -/
abbrev insP : sProp 𝕄 := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6))
/-- The five written buffers before the point. -/
abbrev outsP : sProp 𝕄 := iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12))
/-- The five written buffers after the point, the two accumulators from `a9` and `a10`, the matrix at `w`. -/
abbrev donePt (w : Vec F S2560x6912 .bf16) (a9 : Vec F S2560x16 .f32) (a10 : Vec F S16x6912 .f32) : sProp 𝕄 :=
  iprop((∃ g, ⌜arg8.view.read (Elt F) g = (k0_pay92 (arg6.view.read (Elt F) X6) (arg4.view.read (Elt F) X4) w (arg3.view.read (Elt F) X3))⌝ ∗ (arg8.view.loc (c : Thread nD τ) ↦[arg8.view.set]{fullShare} g))
    ∗ (∃ g, ⌜arg9.view.read (Elt F) g = (k0_pay1 (k0_pay93 a9) (k0_pay94 (arg6.view.read (Elt F) X6) (arg5.view.read (Elt F) X5) (arg4.view.read (Elt F) X4)))⌝ ∗ (arg9.view.loc (c : Thread nD τ) ↦[arg9.view.set]{fullShare} g))
    ∗ (∃ g, ⌜arg10.view.read (Elt F) g = (k0_pay2 (k0_pay88 (arg6.view.read (Elt F) X6)) (k0_pay91 (arg5.view.read (Elt F) X5) (arg3.view.read (Elt F) X3)) a10)⌝ ∗ (arg10.view.loc (c : Thread nD τ) ↦[arg10.view.set]{fullShare} g))
    ∗ (∃ g, ⌜arg11.view.read (Elt F) g = (k0_pay90 (arg6.view.read (Elt F) X6) (arg4.view.read (Elt F) X4))⌝ ∗ (arg11.view.loc (c : Thread nD τ) ↦[arg11.view.set]{fullShare} g))
    ∗ (∃ g, ⌜arg12.view.read (Elt F) g = (k0_pay91 (arg5.view.read (Elt F) X5) (arg3.view.read (Elt F) X3))⌝ ∗ (arg12.view.loc (c : Thread nD τ) ↦[arg12.view.set]{fullShare} g)))

theorem body_later (hz : ¬ k0_cond1 i = 1#1) (f : Buf (Elt F) (wM.view.loc (c : Thread nD τ))) (W : Waits sig Unit) :
    iprop(insP c arg1 arg2 arg3 arg4 arg5 arg6 X1 X2 X3 X4 X5 X6 ∗ outsP c arg8 arg9 arg10 arg11 arg12 X8 X9 X10 X11 X12
    ∗ (wM.view.loc (c : Thread nD τ) ↦[wM.view.set]{fullShare} f) ∗ owes (c : Thread nD τ) 0 W)
    ⊢ wp frame (wpE (defs₀ (F := F)) Variants.none (c : Thread nD τ) none) Set.univ (bodyP i arg1 harg1 arg2 harg2 arg3 harg3 arg4 harg4 arg5 harg5 arg6 harg6 arg8 harg8 arg9 harg9 arg10 harg10 arg11 harg11 arg12 harg12) (fun _ => iprop(insP c arg1 arg2 arg3 arg4 arg5 arg6 X1 X2 X3 X4 X5 X6
    ∗ donePt c arg3 arg4 arg5 arg6 arg8 arg9 arg10 arg11 arg12 X3 X4 X5 X6 (wM.view.read (Elt F) f) (arg9.view.read (Elt F) X9) (arg10.view.read (Elt F) X10)
    ∗ (wM.view.loc (c : Thread nD τ) ↦[wM.view.set]{fullShare} f) ∗ ∃ W, owes (c : Thread nD τ) 0 W)) := by
  iintro ⟨⟨H1, H2, H3, H4, H5, H6⟩, ⟨H8, H9, H10, H11, H12⟩, HM, HW⟩
  dsimp only [bodyP]
  sl_unfold [cc0_qlora_bwd, k0_part19]
  sl_exec
  sl_step
  sl_exec
  sl_step
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H8 H9 H10 H11 H12]
  · isplitl [H8]
    · iexists _; isplitr; swap; · iexact H8
      ipureintro
      rw [read_full arg8.view X8 _ z2, readAt_full arg6.view X6 _ z2, readAt_full arg4.view X4 _ z2, readAt_full arg3.view X3 _ z2, readAt_full wM.view f _ z2]
    isplitl [H9]
    · iexists _; isplitr; swap; · iexact H9
      ipureintro
      unfold body_later.sl.r_2 body_later.sl.r_3
      rw [read_full arg9.view X9 _ z2, readAt_full arg6.view X6 _ z2, readAt_full arg4.view X4 _ z2, readAt_full arg5.view X5 _ z2, readAt_full arg9.view X9 _ z2]
    isplitl [H10]
    · iexists _; isplitr; swap; · iexact H10
      ipureintro
      unfold body_later.sl.r body_later.sl.r_1
      rw [read_full arg10.view X10 _ z2, readAt_full arg6.view X6 _ z2, readAt_full arg3.view X3 _ z2, readAt_full arg5.view X5 _ z2, readAt_full arg10.view X10 _ z2]
    isplitl [H11]
    · iexists _; isplitr; swap; · iexact H11
      ipureintro
      rw [read_full arg11.view X11 _ z2, readAt_full arg6.view X6 _ z2, readAt_full arg4.view X4 _ z2]
    · iexists _; isplitr; swap; · iexact H12
      ipureintro
      rw [read_full arg12.view X12 _ z2, readAt_full arg5.view X5 _ z2, readAt_full arg3.view X3 _ z2]
  isplitl [HM]; · iexact HM
  iexists _; iexact HW

attribute [local sl_canon] sl2_0 sl2_1 bk5_0 slotZ semZ chunkZ in
theorem body_first (k0_h1 : k0_cond1 i = 1#1) (f : Buf (Elt F) (wM.view.loc (c : Thread nD τ))) (W : Waits sig Unit) :
    iprop(insP c arg1 arg2 arg3 arg4 arg5 arg6 X1 X2 X3 X4 X5 X6 ∗ outsP c arg8 arg9 arg10 arg11 arg12 X8 X9 X10 X11 X12
    ∗ (wM.view.loc (c : Thread nD τ) ↦[wM.view.set]{fullShare} f) ∗ owes (c : Thread nD τ) 0 W ∗ bigSep Finset.univ (homeP c XA)
    ∗ (∃ f, slotP c 0 f) ∗ cellP c 0 ∗ (∃ f, slotP c 1 f) ∗ cellP c 1)
    ⊢ wp frame (wpE (defs₀ (F := F)) Variants.none (c : Thread nD τ) none) Set.univ (bodyP i arg1 harg1 arg2 harg2 arg3 harg3 arg4 harg4 arg5 harg5 arg6 harg6 arg8 harg8 arg9 harg9 arg10 harg10 arg11 harg11 arg12 harg12) (fun _ => iprop(insP c arg1 arg2 arg3 arg4 arg5 arg6 X1 X2 X3 X4 X5 X6
    ∗ donePt c arg3 arg4 arg5 arg6 arg8 arg9 arg10 arg11 arg12 X3 X4 X5 X6 (wM.view.read (Elt F) (wOf c arg1 arg2 XA X1 X2)) (k0_pay86 (F := F)) (k0_pay87 (F := F))
    ∗ (wM.view.loc (c : Thread nD τ) ↦[wM.view.set]{fullShare} (wOf c arg1 arg2 XA X1 X2)) ∗ (∃ W, owes (c : Thread nD τ) 0 W) ∗ bigSep Finset.univ (homeP c XA)
    ∗ (∃ f, slotP c 0 f) ∗ cellP c 0 ∗ (∃ f, slotP c 1 f) ∗ cellP c 1)) := by
  conv_lhs => rw [homes_zero]
  iintro ⟨⟨H1, H2, H3, H4, H5, H6⟩, ⟨H8, H9, H10, H11, H12⟩, HM, HW, ⟨Hg0, Hh⟩, ⟨%f0, Hs0⟩, Hc0, ⟨%f1, Hs1⟩, Hc1⟩
  dsimp only [bodyP]
  sl_unfold [cc0_qlora_bwd, k0_part19]
  sl_exec
  sl_step
  isplitl [HL0 HL1 H3 H4 H5 H6]
  · isplitl [HL0]; · iexact HL0
    isplitl [HL1]; · iexact HL1
    isplitl [H3]; · iexact H3
    isplitl [H4]; · iexact H4
    isplitl [H5]; · iexact H5
    iexact H6
  isplitl [H8 H9 H10 H11 H12]
  · isplitl [H8]
    · iexists _; isplitr; swap; · iexact H8
      ipureintro
      unfold body_first.sl.v15
      rw [read_full arg8.view X8 _ z2, readAt_full arg6.view X6 _ z2, readAt_full arg4.view X4 _ z2, readAt_full arg3.view X3 _ z2, readAt_full wM.view _ _ z2]
    isplitl [H9]
    · iexists _; isplitr; swap; · iexact H9
      ipureintro
      unfold body_first.sl.r_2 body_first.sl.r_3 body_first.sl.v24 body_first.sl.H9_1
      rw [read_full_cons arg9.view X9 _ z2, readAt_full arg6.view X6 _ z2, readAt_full arg4.view X4 _ z2, readAt_full arg5.view X5 _ z2, readCov_full arg9.view _ z2]
    isplitl [H10]
    · iexists _; isplitr; swap; · iexact H10
      ipureintro
      unfold body_first.sl.r body_first.sl.r_1 body_first.sl.v31 body_first.sl.H10_1
      rw [read_full_cons arg10.view X10 _ z2, readAt_full arg6.view X6 _ z2, readAt_full arg3.view X3 _ z2, readAt_full arg5.view X5 _ z2, readCov_full arg10.view _ z2]
    isplitl [H11]
    · iexists _; isplitr; swap; · iexact H11
      ipureintro
      rw [read_full arg11.view X11 _ z2, readAt_full arg6.view X6 _ z2, readAt_full arg4.view X4 _ z2]
    · iexists _; isplitr; swap; · iexact H12
      ipureintro
      rw [read_full arg12.view X12 _ z2, readAt_full arg5.view X5 _ z2, readAt_full arg3.view X3 _ z2]
  isplitl [HL2]; · iexact HL2
  isplitl [HL3]; · iexists _; iexact HL3
  isplitl [HL4]; · iexact HL4
  isplitl [HL5]; · iexists _; iexact HL5
  isplitl [HL6]; · iexact HL6
  isplitl [HL7]; · iexists _; iexact HL7
  iexact HL8

end Body

end Cert.Kernel.Hand

end

end
-- ==== Proof.Bits.Region.lean ====
module

public import proofs.«01_k».proof.Proof.Bits.Body
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import proofs.«01_k».proof.Proof.Gen.Kernel.Skeleton
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The region: proof data, the body at every point, the run -/

variable (m : (ℓ : Loc nD τ sig) → Buf (Elt F) ℓ) (ρ : Dev nD → PrngReg)

/-! ### The operands' pieces -/

abbrev G5 (b : Fin 5) : Finset S1280x6912.Idx := (Rect.unit (s := S1280x6912) (chOff b) S256x6912.size (chOff_inb b)).set
abbrev S2s (s : Fin 2) : Finset S2x256x6912.Idx := (Rect.unit (s := S2x256x6912) (slotOff s) S1x256x6912.size (slotOff_inb s)).set

omit [FloatOps F] in
theorem chunk_set (b : Fin 5) : (chunk b : Memref sig .tc .hbm _ _).view.set = G5 b := View.set_slice_whole _ _
omit [FloatOps F] in
theorem slot_set (s : Fin 2) : (slot s : Memref sig .tc .vmem _ _).view.set = S2s s := (View.set_reshape _ _).trans (View.set_slice_whole _ _)

theorem mem_G5 (b : Fin 5) (y : S1280x6912.Idx) : y ∈ G5 b ↔ (y 0).val / 256 = b.val := by
  rw [Rect.mem_set_unit]
  have h1 : (y 1).val < 6912 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 6912; omega
theorem mem_S2s (s : Fin 2) (y : S2x256x6912.Idx) : y ∈ S2s s ↔ (y 0).val = s.val := by
  rw [Rect.mem_set_unit]
  have h1 : (y 1).val < 256 := (y 1).isLt
  have h2 : (y 2).val < 6912 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 6912; omega
theorem G5_disjoint : ∀ b b' : Fin 5, b ≠ b' → Disjoint (G5 b) (G5 b') := by
  intro b b' hne; rw [Finset.disjoint_left]; intro y hy hy'; rw [mem_G5] at hy hy'; exact hne (Fin.ext (hy.symm.trans hy'))
theorem G5_cover : (Finset.univ : Finset (Fin 5)).biUnion G5 = Finset.univ := by
  ext y; simp only [Finset.mem_biUnion, Finset.mem_univ, true_and, iff_true]
  have h0 : (y 0).val < 1280 := (y 0).isLt
  exact ⟨⟨(y 0).val / 256, by omega⟩, by rw [mem_G5]⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]
  have h0 : (y 0).val < 2 := (y 0).isLt
  exact ⟨⟨(y 0).val, h0⟩, by rw [mem_S2s]⟩

omit [FloatOps F] in
theorem entails_of_eq {P Q : sProp 𝕄} (e : P = Q) : P ⊢ Q := e ▸ .rfl
omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The packed codes whole are the five chunks. -/
theorem codes_eq (c : Dev nD) (XA : Buf (Elt F) ((c : Thread nD τ).loc main_arg1)) :
    (((c : Thread nD τ).loc main_arg1) ↦{fullShare} XA : sProp 𝕄) = bigSep Finset.univ (homeP c XA) := by
  rw [Ring.pointsTo_blocks (ℓ := (c : Thread nD τ).loc main_arg1) G5 G5_disjoint G5_cover]
  exact bigSep_congr fun b _ => by rw [← chunk_set]; rfl

omit [FloatOps F] in
theorem slotP_eq (c : Dev nD) (s : Fin 2) (f) : slotP c s f = (((c : Thread nD τ).loc cc0_scratch1) ↦[S2s s]{fullShare} f : sProp 𝕄) :=
  congrArg (fun S => (_ ↦[S]{fullShare} f : sProp 𝕄)) (slot_set s)
/-- The landing buffer whole is its two slots, -/
theorem land_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
/-- and back. -/
theorem land_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

/-- The kernel's own two counters. -/
abbrev osem0 : Fin 2 → SemLoc sig := fun s => .dma (csm s).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1) := by
  unfold Pipeline.ownSems0; rw [bigSep_fin2]

/-- The operand the body copies out of itself: the packed codes. -/
def H0 : Finset (Ref sig .tc) := {main_arg1}
theorem H0_sub : H0 ⊆ Pipeline.restRefs sig spec0 := by decide
theorem H0_eq (c : Dev nD) :
    (bigSep H0 (fun b => ((c : Thread nD τ).loc b) ↦{fullShare} V m c b) : sProp 𝕄) = (((c : Thread nD τ).loc main_arg1) ↦{fullShare} V m c main_arg1) := by
  rw [BI.bigSep_eq_bigSepL_of_eq [main_arg1] (by decide) (by decide)]; rfl

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ### The values -/

abbrev ms0 (t : Fin cfg0.N) : Memref sig .tc .vmem S2x128 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x6912 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2560x16 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x6912 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2560 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x6912 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x2560 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2560x16 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S16x6912 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x16 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x16 .bf16 := win0_10.stage (cfg0.slots t 10)
abbrev hs10 (t : Fin cfg0.N) : (ms10 t).IsWhole := hstage0_10 ((cfg0.slots t 10).cast nbuf0_10)

/-- The first grid point, and the `n`-th. -/
abbrev pt0 : Fin cfg0.N := ⟨0, by decide⟩
def pt (n : ℕ) : Fin cfg0.N := ⟨n % 48, Nat.mod_lt _ (by decide)⟩
theorem pt_val (t : Fin cfg0.N) : pt t.val = t := Fin.ext (Nat.mod_eq_of_lt (show t.val < 48 from t.isLt))

/-- The decoded matrix, from the table, the scales and the packed codes. -/
def Wm (c : Dev nD) : S2560x6912.Idx → F .bf16 :=
  wFull (tabRow (iblk m c 0 pt0) 0) (tabRow (iblk m c 0 pt0) 1) (iblk m c 1 pt0) (hbM.view.read (Elt F) (V m c main_arg1))
abbrev xB (c : Dev nD) (t : Fin cfg0.N) : Vec F S256x2560 .bf16 := iblk m c 4 t
abbrev dyB (c : Dev nD) (t : Fin cfg0.N) : Vec F S256x6912 .bf16 := iblk m c 5 t
abbrev laB (c : Dev nD) (t : Fin cfg0.N) : Vec F S2560x16 .bf16 := iblk m c 2 t
abbrev lbB (c : Dev nD) (t : Fin cfg0.N) : Vec F S16x6912 .bf16 := iblk m c 3 t

/-- The first accumulator after a point that found `a` in it, -/
def stepA (c : Dev nD) (t : Fin cfg0.N) (a : Vec F S2560x16 .f32) : Vec F S2560x16 .f32 :=
  k0_pay1 (k0_pay93 a) (k0_pay94 (dyB m c t) (xB m c t) (lbB m c t))
/-- and the second. -/
def stepB (c : Dev nD) (t : Fin cfg0.N) (a : Vec F S16x6912 .f32) : Vec F S16x6912 .f32 :=
  k0_pay2 (k0_pay88 (dyB m c t)) (k0_pay91 (xB m c t) (laB m c t)) a
/-- The accumulators after point `n`. -/
def accA (c : Dev nD) : ℕ → Vec F S2560x16 .f32
  | 0 => stepA m c (pt 0) (k0_pay86 (F := F))
  | n + 1 => stepA m c (pt (n + 1)) (accA c n)
def accB (c : Dev nD) : ℕ → Vec F S16x6912 .f32
  | 0 => stepB m c (pt 0) (k0_pay87 (F := F))
  | n + 1 => stepB m c (pt (n + 1)) (accB c n)
def dxB (c : Dev nD) (t : Fin cfg0.N) : Vec F S256x2560 .bf16 := k0_pay92 (dyB m c t) (lbB m c t) (Wm m c) (laB m c t)
def gB (c : Dev nD) (t : Fin cfg0.N) : Vec F S256x16 .bf16 := k0_pay90 (dyB m c t) (lbB m c t)
def hB (c : Dev nD) (t : Fin cfg0.N) : Vec F S256x16 .bf16 := k0_pay91 (xB m c t) (laB m c t)

/-! ### The proof data -/

/-- Between two points: the decoded matrix in place, the rest as at launch. -/
def ΦL (c : Dev nD) : sProp 𝕄 :=
  iprop((((c : Thread nD τ).loc cc0_scratch0) ↦{fullShare} (Wm m c : Buf (Elt F) ((c : Thread nD τ).loc cc0_scratch0)))
    ∗ (∃ f : Buf (Elt F) ((c : Thread nD τ).loc cc0_scratch1), ((c : Thread nD τ).loc cc0_scratch1) ↦{fullShare} f)
    ∗ (∃ r, prngReg c r) ∗ Pipeline.ownSems0 osem0 c
    ∗ bigSep H0 (fun b => ((c : Thread nD τ).loc b) ↦{fullShare} V m c b))
/-- Before the first point: everything as at launch. -/
def ΦZ (c : Dev nD) : sProp 𝕄 := Pipeline.ΦD osem0 spec0 H0 (V m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxB m c t
    | ⟨7, _⟩ => accA m c t.val
    | ⟨8, _⟩ => accB m c t.val
    | ⟨9, _⟩ => gB m c t
    | ⟨10, _⟩ => hB m c t
  Φ t := if t.val = 0 then ΦZ m c else ΦL m c
  q _ := fullShare
  owed _ := 0

theorem Φ_at (c : Dev nD) (t : Fin (cfg0.N + 1)) : (dats m 0 c).Φ t = if t.val = 0 then ΦZ m c else ΦL m c := by dsimp only [dats]
theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dxB m c t := by dsimp only [dats]
theorem after_7 (c : Dev nD) (t : Fin cfg0.N) : (dats m 0 c).after 7 t = accA m c t.val := by dsimp only [dats]
theorem after_8 (c : Dev nD) (t : Fin cfg0.N) : (dats m 0 c).after 8 t = accB m c t.val := by dsimp only [dats]
theorem after_9 (c : Dev nD) (t : Fin cfg0.N) : (dats m 0 c).after 9 t = gB m c t := by dsimp only [dats]
theorem after_10 (c : Dev nD) (t : Fin cfg0.N) : (dats m 0 c).after 10 t = hB m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_7 (c : Dev nD) (t : Fin cfg0.N) (ht : t.val ≠ 0) (d) : (dats m 0 c).before 7 t d = accA m c (t.val - 1) := by
  have hN : t.val < 48 := t.isLt
  rw [(dats m 0 c).before_out_kept 7 rfl t ht (by rw [Bool.eq_false_iff, ne_eq, flush0_7]; show ¬ (t.val - 1) % 48 = 47; omega) (fun _ => rfl) (fun _ _ => rfl)]
  rw [after_7]
theorem before_8 (c : Dev nD) (t : Fin cfg0.N) (ht : t.val ≠ 0) (d) : (dats m 0 c).before 8 t d = accB m c (t.val - 1) := by
  have hN : t.val < 48 := t.isLt
  rw [(dats m 0 c).before_out_kept 8 rfl t ht (by rw [Bool.eq_false_iff, ne_eq, flush0_8]; show ¬ (t.val - 1) % 48 = 47; omega) (fun _ => rfl) (fun _ _ => rfl)]
  rw [after_8]

theorem cond1_iff : ∀ t : Fin cfg0.N, k0_cond1 (grid0.coords t) = 1#1 ↔ t.val = 0 := by decide +kernel

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

omit [FloatOps F] in
/-- The matrix' buffer whole, under its memref's own name. -/
theorem wM_eq (c : Dev nD) (f : Buf (Elt F) ((c : Thread nD τ).loc cc0_scratch0)) :
    ((((c : Thread nD τ).loc cc0_scratch0) ↦{fullShare} f) : sProp 𝕄) = (wM.view.loc (c : Thread nD τ) ↦[wM.view.set]{fullShare} f) :=
by
  show _ = (((c : Thread nD τ).loc cc0_scratch0) ↦[(View.whole cc0_scratch0).set]{fullShare} f)
  rw [View.set_whole]

theorem accA_pos (c : Dev nD) (t : Fin cfg0.N) (ht : t.val ≠ 0) : accA m c t.val = stepA m c t (accA m c (t.val - 1)) := by
  obtain ⟨n, hn⟩ := Nat.exists_eq_succ_of_ne_zero ht
  have e : pt (n + 1) = t := by rw [← pt_val t, hn]
  rw [hn]; show stepA m c (pt (n + 1)) (accA m c n) = _; rw [e]; rfl
theorem accB_pos (c : Dev nD) (t : Fin cfg0.N) (ht : t.val ≠ 0) : accB m c t.val = stepB m c t (accB m c (t.val - 1)) := by
  obtain ⟨n, hn⟩ := Nat.exists_eq_succ_of_ne_zero ht
  have e : pt (n + 1) = t := by rw [← pt_val t, hn]
  rw [hn]; show stepB m c (pt (n + 1)) (accB m c n) = _; rw [e]; rfl

theorem sound_later (c : Dev nD) (t : Fin cfg0.N) (ht : t.val ≠ 0) :
    bodyPre m c t ⊢ wp frame (wpE (defs₀ (F := F)) Variants.none c none) Set.univ (bodyAt0 t) (fun _ => bodyPost m c t) := by
  have hz : ¬ k0_cond1 (grid0.coords t) = 1#1 := fun h => ht ((cond1_iff t).1 h)
  unfold bodyPre bodyPost bodyAt0
  rw [Φ_at, Φ_at, if_neg (show ¬ t.castSucc.val = 0 from ht), if_neg (show ¬ t.succ.val = 0 from Nat.succ_ne_zero _)]
  unfold ΦL; rw [wM_eq]
  unfold Dat.owesAt Pipeline.owesWithin owns
  rw [show (dats m 0 c).owed t.castSucc = 0 from rfl, show (dats m 0 c).owed t.succ = 0 from rfl]
  iintro ⟨⟨HM, HR⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  rw [before_0] at h0; rw [before_1] at h1; rw [before_2] at h2; rw [before_3] at h3; rw [before_4] at h4; rw [before_5] at h5
  rw [before_7 m c t ht] at h7; rw [before_8 m c t ht] at h8
  iapply (wp_wand_r _ _ _)
  isplitl [HM HW H0 H1 H2 H3 H4 H5 H6 H7 H8 H9 H10]
  · iapply (body_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) f0 f1 f2 f3 f4 f5 f6 f7 f8 f9 f10 hz (Wm m c) W)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 H10]
    · isplitl [H6]; · iexact H6
      isplitl [H7]; · iexact H7
      isplitl [H8]; · iexact H8
      isplitl [H9]; · iexact H9
      iexact H10
    isplitl [HM]; · iexact HM
    iexact HW
  iintro %a ⟨⟨H0, H1, H2, H3, H4, H5⟩, ⟨⟨%g6, %h6, H6⟩, ⟨%g7, %h7', H7⟩, ⟨%g8, %h8', H8⟩, ⟨%g9, %h9, H9⟩, ⟨%g10, %h10, H10⟩⟩, HM, ⟨%W', HW⟩⟩
  isplitl [HM HR]
  · isplitl [HM]; · iexact HM
    iexact HR
  isplitl [HW]
  · iexists W'; isplitr; · ipureintro; exact fun _ _ => Or.inl trivial
    iexact HW
  isplitl [H0]
  · iexists _; isplitr; swap; · iexact H0
    ipureintro; rw [after_0]; exact h0
  isplitl [H1]
  · iexists _; isplitr; swap; · iexact H1
    ipureintro; rw [after_1]; exact h1
  isplitl [H2]
  · iexists _; isplitr; swap; · iexact H2
    ipureintro; rw [after_2]; exact h2
  isplitl [H3]
  · iexists _; isplitr; swap; · iexact H3
    ipureintro; rw [after_3]; exact h3
  isplitl [H4]
  · iexists _; isplitr; swap; · iexact H4
    ipureintro; rw [after_4]; exact h4
  isplitl [H5]
  · iexists _; isplitr; swap; · iexact H5
    ipureintro; rw [after_5]; exact h5
  isplitl [H6]
  · iexists _; isplitr; swap; · iexact H6
    ipureintro; rw [after_6]; refine h6.trans ?_
    unfold dxB; rw [h2, h3, h5]; rfl
  isplitl [H7]
  · iexists _; isplitr; swap; · iexact H7
    ipureintro; rw [after_7]; refine h7'.trans ?_
    rw [accA_pos m c t ht]; unfold stepA; rw [h3, h4, h5, h7]
  isplitl [H8]
  · iexists _; isplitr; swap; · iexact H8
    ipureintro; rw [after_8]; refine h8'.trans ?_
    rw [accB_pos m c t ht]; unfold stepB; rw [h2, h4, h5, h8]
  isplitl [H9]
  · iexists _; isplitr; swap; · iexact H9
    ipureintro; rw [after_9]; refine h9.trans ?_
    unfold gB; rw [h3, h5]
  · iexists _; isplitr; swap; · iexact H10
    ipureintro; rw [after_10]; refine h10.trans ?_
    unfold hB; rw [h2, h4]

theorem sound_first (c : Dev nD) (t : Fin cfg0.N) (ht : t.val = 0) :
    bodyPre m c t ⊢ wp frame (wpE (defs₀ (F := F)) Variants.none c none) Set.univ (bodyAt0 t) (fun _ => bodyPost m c t) := by
  have hz : k0_cond1 (grid0.coords t) = 1#1 := (cond1_iff t).2 ht
  obtain rfl : t = pt0 := Fin.ext ht
  unfold bodyPre bodyPost bodyAt0
  rw [Φ_at, Φ_at, if_pos (show (Fin.castSucc pt0).val = 0 from rfl), if_neg (show ¬ (Fin.succ pt0).val = 0 from Nat.succ_ne_zero _)]
  unfold ΦZ ΦL; rw [Pipeline.ΦD_eq, scopedRest0_eq, ownSems00_eq, H0_eq, codes_eq, wM_eq]
  unfold Dat.owesAt Pipeline.owesWithin owns
  rw [show (dats m 0 c).owed (Fin.castSucc pt0) = 0 from rfl, show (dats m 0 c).owed (Fin.succ pt0) = 0 from rfl]
  iintro ⟨⟨⟨⟨%fw, HM⟩, HS⟩, HP, ⟨HC0, HC1⟩, HX⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  rw [before_0] at h0; rw [before_1] at h1; rw [before_2] at h2; rw [before_3] at h3; rw [before_4] at h4; rw [before_5] at h5
  ihave HS' := (land_split c) $$ HS
  icases HS' with ⟨HS0, HS1⟩
  ihave HM' := (entails_of_eq (wM_eq c fw)) $$ HM
  iapply (wp_wand_r _ _ _)
  isplitl [HM' HW HX HS0 HS1 HC0 HC1 H0 H1 H2 H3 H4 H5 H6 H7 H8 H9 H10]
  · iapply (body_first c (grid0.coords pt0) (ms0 pt0) (hs0 pt0) (ms1 pt0) (hs1 pt0) (ms2 pt0) (hs2 pt0) (ms3 pt0) (hs3 pt0) (ms4 pt0) (hs4 pt0) (ms5 pt0) (hs5 pt0) (ms6 pt0) (hs6 pt0) (ms7 pt0) (hs7 pt0) (ms8 pt0) (hs8 pt0) (ms9 pt0) (hs9 pt0) (ms10 pt0) (hs10 pt0) (V m c main_arg1) f0 f1 f2 f3 f4 f5 f6 f7 f8 f9 f10 hz fw W)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 H10]
    · isplitl [H6]; · iexact H6
      isplitl [H7]; · iexact H7
      isplitl [H8]; · iexact H8
      isplitl [H9]; · iexact H9
      iexact H10
    isplitl [HM']; · iexact HM'
    isplitl [HW]; · iexact HW
    isplitl [HX]; · iexact HX
    isplitl [HS0]; · iexact HS0
    isplitl [HC0]; · iexact HC0
    isplitl [HS1]; · iexact HS1
    iexact HC1
  have hW : wOf c (ms0 pt0) (ms1 pt0) (V m c main_arg1) f0 f1 = Wm m c := by unfold wOf Wm; rw [h0, h1]
  rw [hW]
  iintro %a ⟨⟨H0, H1, H2, H3, H4, H5⟩, ⟨⟨%g6, %h6, H6⟩, ⟨%g7, %h7, H7⟩, ⟨%g8, %h8, H8⟩, ⟨%g9, %h9, H9⟩, ⟨%g10, %h10, H10⟩⟩, HM, ⟨%W', HW⟩, HX, HS0, HC0, HS1, HC1⟩
  isplitl [HM HX HS0 HS1 HC0 HC1 HP]
  · isplitl [HM]; · iexact HM
    isplitl [HS0 HS1]
    · iapply (land_join c)
      isplitl [HS0]; · iexact HS0
      iexact HS1
    isplitl [HP]; · iexact HP
    isplitl [HC0 HC1]
    · isplitl [HC0]; · iexact HC0
      iexact HC1
    iexact HX
  isplitl [HW]
  · iexists W'; isplitr; · ipureintro; exact fun _ _ => Or.inl trivial
    iexact HW
  isplitl [H0]
  · iexists _; isplitr; swap; · iexact H0
    ipureintro; rw [after_0]; exact h0
  isplitl [H1]
  · iexists _; isplitr; swap; · iexact H1
    ipureintro; rw [after_1]; exact h1
  isplitl [H2]
  · iexists _; isplitr; swap; · iexact H2
    ipureintro; rw [after_2]; exact h2
  isplitl [H3]
  · iexists _; isplitr; swap; · iexact H3
    ipureintro; rw [after_3]; exact h3
  isplitl [H4]
  · iexists _; isplitr; swap; · iexact H4
    ipureintro; rw [after_4]; exact h4
  isplitl [H5]
  · iexists _; isplitr; swap; · iexact H5
    ipureintro; rw [after_5]; exact h5
  isplitl [H6]
  · iexists _; isplitr; swap; · iexact H6
    ipureintro; rw [after_6]; refine h6.trans ?_
    unfold dxB; rw [h2, h3, h5]; rfl
  isplitl [H7]
  · iexists _; isplitr; swap; · iexact H7
    ipureintro; rw [after_7]; refine h7.trans ?_
    rw [show accA m c (pt0).val = stepA m c pt0 (k0_pay86 (F := F)) from rfl]; unfold stepA; rw [h3, h4, h5]
  isplitl [H8]
  · iexists _; isplitr; swap; · iexact H8
    ipureintro; rw [after_8]; refine h8.trans ?_
    rw [show accB m c (pt0).val = stepB m c pt0 (k0_pay87 (F := F)) from rfl]; unfold stepB; rw [h2, h4, h5]
  isplitl [H9]
  · iexists _; isplitr; swap; · iexact H9
    ipureintro; rw [after_9]; refine h9.trans ?_
    unfold gB; rw [h3, h5]
  · iexists _; isplitr; swap; · iexact H10
    ipureintro; rw [after_10]; refine h10.trans ?_
    unfold hB; rw [h2, h4]

theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_later m c t ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Φ_out (c : Dev nD) : (dats m 0 c).Φ (Fin.last cfg0.N) ⊢ Pipeline.ΦD osem0 spec0 H0 (V m) c := by
  rw [Φ_at, if_neg (by decide)]
  unfold ΦL; rw [Pipeline.ΦD_eq, scopedRest0_eq]
  iintro ⟨HM, HS, HP, HC, HX⟩
  isplitl [HM HS]
  · isplitl [HM]; · iexists _; iexact HM
    iexact HS
  isplitl [HP]; · iexact HP
  isplitl [HC]; · iexact HC
  iexact HX

set_option backward.isDefEq.respectTransparency.types false in
/-- The run: every window's array at what its points wrote, every other buffer as before, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := Φ_out m)

theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).2 main_arg5 (Pipeline.mem_restRefs_of main_arg5 (by decide) (by decide))).trans (V_main_arg5 m c)⟩

/-- The frame: from any memory with zero counters every execution ends with the arguments unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m h.1 c, h.2⟩) (run_main m ρ)

end Cert.Kernel.Hand

end

end
-- ==== Proof.lean ====
/- The proof of the certificate's claim: the frames of the kernel (at the machine's floats and at the extended reals) and
   of the reference, and the equality of the kernel's and the reference's five results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Region
public import proofs.«01_k».proof.Proof.Values
public import Idealize.ShloMosaic.Lib.Claim
public import proofs.«01_k».proof.Proof.Bits.Region

@[expose] public section

noncomputable section

open Idealize.ShloMosaic Idealize.SL.Sem

/-- The kernel's run: the five result arrays hold the reference's five functions of the arguments, the arguments unchanged. -/
theorem Cert.KernelIdeal.Hand.run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = Cert.KernelIdeal.Hand.res0 m c
      ∧ r.2.mem ((c.tc : Thread Cert.KernelIdeal.nD Cert.KernelIdeal.τ).loc Cert.KernelIdeal.main_v2_1) = Cert.KernelIdeal.Hand.res1 m c
      ∧ r.2.mem ((c.tc : Thread Cert.KernelIdeal.nD Cert.KernelIdeal.τ).loc Cert.KernelIdeal.main_v2_2) = Cert.KernelIdeal.Hand.res2 m c
      ∧ r.2.mem ((c.tc : Thread Cert.KernelIdeal.nD Cert.KernelIdeal.τ).loc Cert.KernelIdeal.main_v2_3) = Cert.KernelIdeal.Hand.res3 m c
      ∧ r.2.mem ((c.tc : Thread Cert.KernelIdeal.nD Cert.KernelIdeal.τ).loc Cert.KernelIdeal.main_v2_4) = Cert.KernelIdeal.Hand.res4 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c =>
    ⟨((h.1 c).1 6).trans (Cert.KernelIdeal.Hand.arr6 m c), ((h.1 c).1 7).trans (Cert.KernelIdeal.Hand.arr7 m c),
      ((h.1 c).1 8).trans (Cert.KernelIdeal.Hand.arr8 m c), ((h.1 c).1 9).trans (Cert.KernelIdeal.Hand.arr9 m c),
      ((h.1 c).1 10).trans (Cert.KernelIdeal.Hand.arr10 m c), Cert.KernelIdeal.Hand.args_of m h.1 c⟩)
    (Cert.KernelIdeal.Hand.run_main m g)

/-- The kernel and the reference, started on equal arguments, end with equal results over the extended reals. -/
theorem Cert.Proof.algebraic [Cert.KernelIdeal.Facts] [Cert.ReferenceIdeal.Facts] : Cert.algebraic_KernelIdeal_ReferenceIdeal :=
  fun m g m' g' _ hm =>
    ⟨Cert.KernelIdeal.Hand.res0 m, Cert.KernelIdeal.Hand.res1 m, Cert.KernelIdeal.Hand.res2 m, Cert.KernelIdeal.Hand.res3 m,
      Cert.KernelIdeal.Hand.res4 m, Cert.KernelIdeal.Hand.run m g,
      (θ_run Cert.ReferenceIdeal.defs _ _).mono (fun r h c => by
        obtain ⟨e0, e1, e2, e3, e4, e5⟩ := hm c
        obtain ⟨r0, r1, r2, r3, r4, ra⟩ := h c
        refine ⟨r0.trans ((Cert.ReferenceIdeal.Read.val_main_v100_eq (StableHlo.launchContents m' c)).trans ?_), r1.trans ((Cert.ReferenceIdeal.Read.val_main_v99_eq (StableHlo.launchContents m' c)).trans ?_),
          r2.trans ((Cert.ReferenceIdeal.Read.val_main_v96_eq (StableHlo.launchContents m' c)).trans ?_), r3.trans ((Cert.ReferenceIdeal.Read.val_main_v101_eq (StableHlo.launchContents m' c)).trans ?_),
          r4.trans ((Cert.ReferenceIdeal.Read.val_main_v102_eq (StableHlo.launchContents m' c)).trans ?_), ra⟩
        · exact congr (congr (congr (congr (congrArg (Cert.ReferenceIdeal.Read.val_main_v100 (F := Ideal)) e1) e2) e3) e4) e5
        · exact congr (congr (congrArg (Cert.ReferenceIdeal.Read.val_main_v99 (F := Ideal)) e0) e4) e5
        · exact congr (congr (congrArg (Cert.ReferenceIdeal.Read.val_main_v96 (F := Ideal)) e0) e3) e5
        · exact congr (congrArg (Cert.ReferenceIdeal.Read.val_main_v101 (F := Ideal)) e4) e5
        · exact congr (congrArg (Cert.ReferenceIdeal.Read.val_main_v102 (F := Ideal)) e0) e3) (Cert.ReferenceIdeal.Value.run (F := Ideal) m' g')⟩

theorem Cert.Proof.claim : Cert.Claim :=
  ⟨Cert.Kernel.Gen.facts, Cert.KernelIdeal.Gen.facts, Cert.ReferenceIdeal.Gen.facts,
    fun m ρ _ => Cert.Kernel.Hand.frame_all m ρ, fun m ρ _ => Cert.KernelIdeal.Hand.frame_all m ρ,
    fun m ρ _ => (θ_run Cert.ReferenceIdeal.defs _ _).mono (fun r h => ⟨fun c => (h c).2.2.2.2.2,
      sem_eq_zero_of_no_sems (by decide) r.2⟩) (Cert.ReferenceIdeal.Value.run (F := Ideal) m ρ),
    trivial, Cert.Proof.algebraic⟩

end

end
